-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46_0) = v0 c
          ∧ r.2.mem ((c.tc : Thread Cert.ReferenceIdeal.nD Cert.ReferenceIdeal.τ).loc Cert.ReferenceIdeal.main_v46_1) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x8192 : Shape := ⟨3, ![128, 1, 8192]⟩
abbrev S128x128 : Shape := ⟨2, ![128, 128]⟩
abbrev S8192x32768 : Shape := ⟨2, ![8192, 32768]⟩
abbrev S32768 : Shape := ⟨1, ![32768]⟩
abbrev S128x8192 : Shape := ⟨2, ![128, 8192]⟩
abbrev S1x32768 : Shape := ⟨2, ![1, 32768]⟩
abbrev S128x32768 : Shape := ⟨2, ![128, 32768]⟩
abbrev S128x1 : Shape := ⟨2, ![128, 1]⟩
abbrev S8192x1024 : Shape := ⟨2, ![8192, 1024]⟩
abbrev S1x1024 : Shape := ⟨2, ![1, 1024]⟩
abbrev S128x1024 : Shape := ⟨2, ![128, 1024]⟩
abbrev S128 : Shape := ⟨1, ![128]⟩
abbrev S1x255 : Shape := ⟨2, ![1, 255]⟩
abbrev S128x255 : Shape := ⟨2, ![128, 255]⟩

abbrev nBuf : Space → Nat
  | .hbm => 11
  | .vmem => 13
  | .smem => 0
  | _ => 0

abbrev bufTy : (tb : Table) → Fin (tcTables nBuf tb) → BufTy
  | .hbm, ⟨0, _⟩ => ⟨S128x1x8192, .f32⟩
  | .hbm, ⟨1, _⟩ => ⟨S128x128, .f32⟩
  | .hbm, ⟨2, _⟩ => ⟨S8192x32768, .fp8e4m3⟩
  | .hbm, ⟨3, _⟩ => ⟨S32768, .f32⟩
  | .hbm, ⟨4, _⟩ => ⟨S32768, .f32⟩
  | .hbm, ⟨5, _⟩ => ⟨S128x8192, .f32⟩
  | .hbm, ⟨6, _⟩ => ⟨S1x32768, .f32⟩
  | .hbm, ⟨7, _⟩ => ⟨S1x32768, .f32⟩
  | .hbm, ⟨8, _⟩ => ⟨S128x32768, .f32⟩
  | .hbm, ⟨9, _⟩ => ⟨S128x8192, .fp8e4m3⟩
  | .hbm, ⟨10, _⟩ => ⟨S128x1, .f32⟩
  | .local _ .vmem, ⟨0, _⟩ => ⟨S128x8192, .f32⟩
  | .local _ .vmem, ⟨1, _⟩ => ⟨S128x128, .f32⟩
  | .local _ .vmem, ⟨2, _⟩ => ⟨S8192x1024, .fp8e4m3⟩
  | .local _ .vmem, ⟨3, _⟩ => ⟨S8192x1024, .fp8e4m3⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S128x1024, .f32⟩
  | .local _ .vmem, ⟨9, _⟩ => ⟨S128x1024, .f32⟩
  | .local _ .vmem, ⟨10, _⟩ => ⟨S128x8192, .fp8e4m3⟩
  | .local _ .vmem, ⟨11, _⟩ => ⟨S128x1, .f32⟩
  | .local _ .vmem, ⟨12, _⟩ => ⟨S128x8192, .f32⟩
  | _, _ => ⟨S128x1x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x8192 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S128x1x8192 : Shape := ⟨3, ![128, 1, 8192]⟩
abbrev S128x128 : Shape := ⟨2, ![128, 128]⟩
abbrev S8192x32768 : Shape := ⟨2, ![8192, 32768]⟩
abbrev S32768 : Shape := ⟨1, ![32768]⟩
abbrev S128x64x128 : Shape := ⟨3, ![128, 64, 128]⟩
abbrev S128x8192 : Shape := ⟨2, ![128, 8192]⟩
abbrev S_ : Shape := ⟨0, ![]⟩
abbrev S128 : Shape := ⟨1, ![128]⟩
abbrev S128x1 : Shape := ⟨2, ![128, 1]⟩
abbrev S1x32768 : Shape := ⟨2, ![1, 32768]⟩
abbrev S128x32768 : Shape := ⟨2, ![128, 32768]⟩

abbrev nBuf : Space → Nat
  | .hbm => 91
  | .vmem => 7
  | .smem => 0
  | _ => 0

abbrev bufTy : (tb : Table) → Fin (tcTables nBuf tb) → BufTy
  | .hbm, ⟨0, _⟩ => ⟨S128x1x8192, .f32⟩
  | .hbm, ⟨1, _⟩ => ⟨S128x128, .f32⟩
  | .hbm, ⟨2, _⟩ => ⟨S8192x32768, .fp8e4m3⟩
  | .hbm, ⟨3, _⟩ => ⟨S32768, .f32⟩
  | .hbm, ⟨4, _⟩ => ⟨S32768, .f32⟩
  | .hbm, ⟨5, _⟩ => ⟨S128x64x128, .f32⟩
  | .hbm, ⟨6, _⟩ => ⟨S128x64x128, .f32⟩
  | .hbm, ⟨7, _⟩ => ⟨S128x8192, .f32⟩
  | .hbm, ⟨8, _⟩ => ⟨S128x8192, .f32⟩
  | .hbm, ⟨9, _⟩ => ⟨S_, .f32⟩
  | .hbm, ⟨10, _⟩ => ⟨S128, .f32⟩
  | .hbm, ⟨11, _⟩ => ⟨S128x1, .f32⟩
  | .hbm, ⟨12, _⟩ => ⟨S_, .f32⟩
  | .hbm, ⟨13, _⟩ => ⟨S128x1, .f32⟩
  | .hbm, ⟨14, _⟩ => ⟨S128x1, .f32⟩
  | .hbm, ⟨15, _⟩ => ⟨S128x1, .f32⟩
  | .hbm, ⟨16, _⟩ => ⟨S_, .f32⟩
  | .hbm, ⟨17, _⟩ => ⟨S128x1, .f32⟩
  | .hbm, ⟨18, _⟩ => ⟨S128x1, .f32⟩
  | .hbm, ⟨19, _⟩ => ⟨S128x1, .f32⟩
  | .hbm, ⟨20, _⟩ => ⟨S128x1, .f32⟩
  | .hbm, ⟨21, _⟩ => ⟨S_, .f32⟩
  | .hbm, ⟨22, _⟩ => ⟨S128x1, .f32⟩
  | .hbm, ⟨23, _⟩ => ⟨S128x1, .f32⟩
  | .hbm, ⟨24, _⟩ => ⟨S_, .f32⟩
  | .hbm, ⟨25, _⟩ => ⟨S128x1, .f32⟩
  | .hbm, ⟨26, _⟩ => ⟨S128x1, .i1⟩
  | .hbm, ⟨27, _⟩ => ⟨S_, .f32⟩
  | .hbm, ⟨28, _⟩ => ⟨S128x1, .f32⟩
  | .hbm, ⟨29, _⟩ => ⟨S128x1, .i1⟩
  | .hbm, ⟨30, _⟩ => ⟨S128x1, .i1⟩
  | .hbm, ⟨31, _⟩ => ⟨S_, .f32⟩
  | .hbm, ⟨32, _⟩ => ⟨S_, .f32⟩
  | .hbm, ⟨33, _⟩ => ⟨S128x1, .f32⟩
  | .hbm, ⟨34, _⟩ => ⟨S128x1, .f32⟩
  | .hbm, ⟨35, _⟩ => ⟨S_, .f32⟩
  | .hbm, ⟨36, _⟩ => ⟨S128x1, .f32⟩
  | .hbm, ⟨37, _⟩ => ⟨S128x1, .i1⟩
  | .hbm, ⟨38, _⟩ => ⟨S_, .f32⟩
  | .hbm, ⟨39, _⟩ => ⟨S_, .f32⟩
  | .hbm, ⟨40, _⟩ => ⟨S128x1, .f32⟩
  | .hbm, ⟨41, _⟩ => ⟨S128x1, .f32⟩
  | .hbm, ⟨42, _⟩ => ⟨S_, .f32⟩
  | .hbm, ⟨43, _⟩ => ⟨S128x1, .f32⟩
  | .hbm, ⟨44, _⟩ => ⟨S128x1, .f32⟩
  | .hbm, ⟨45, _⟩ => ⟨S_, .f32⟩
  | .hbm, ⟨46, _⟩ => ⟨S128x1, .f32⟩
  | .hbm, ⟨47, _⟩ => ⟨S128x1, .i1⟩
  | .hbm, ⟨48, _⟩ => ⟨S_, .f32⟩
  | .hbm, ⟨49, _⟩ => ⟨S128x1, .f32⟩
  | .hbm, ⟨50, _⟩ => ⟨S128x1, .i1⟩
  | .hbm, ⟨51, _⟩ => ⟨S_, .f32⟩
  | .hbm, ⟨52, _⟩ => ⟨S_, .f32⟩
  | .hbm, ⟨53, _⟩ => ⟨S128x1, .f32⟩
  | .hbm, ⟨54, _⟩ => ⟨S128x1, .f32⟩
  | .hbm, ⟨55, _⟩ => ⟨S_, .f32⟩
  | .hbm, ⟨56, _⟩ => ⟨S_, .f32⟩
  | .hbm, ⟨57, _⟩ => ⟨S128x1, .f32⟩
  | .hbm, ⟨58, _⟩ => ⟨S128x1, .f32⟩
  | .hbm, ⟨59, _⟩ => ⟨S128x1, .f32⟩
  | .hbm, ⟨60, _⟩ => ⟨S_, .f32⟩
  | .hbm, ⟨61, _⟩ => ⟨S128x1, .f32⟩
  | .hbm, ⟨62, _⟩ => ⟨S128x1, .f32⟩
  | .hbm, ⟨63, _⟩ => ⟨S_, .f32⟩
  | .hbm, ⟨64, _⟩ => ⟨S128x1, .f32⟩
  | .hbm, ⟨65, _⟩ => ⟨S128x1, .i1⟩
  | .hbm, ⟨66, _⟩ => ⟨S_, .f32⟩
  | .hbm, ⟨67, _⟩ => ⟨S128x1, .f32⟩
  | .hbm, ⟨68, _⟩ => ⟨S128x1, .i1⟩
  | .hbm, ⟨69, _⟩ => ⟨S_, .f32⟩
  | .hbm, ⟨70, _⟩ => ⟨S_, .f32⟩
  | .hbm, ⟨71, _⟩ => ⟨S128x1, .f32⟩
  | .hbm, ⟨72, _⟩ => ⟨S128x1, .f32⟩
  | .hbm, ⟨73, _⟩ => ⟨S_, .f32⟩
  | .hbm, ⟨74, _⟩ => ⟨S_, .f32⟩
  | .hbm, ⟨75, _⟩ => ⟨S128x1, .f32⟩
  | .hbm, ⟨76, _⟩ => ⟨S128x1, .f32⟩
  | .hbm, ⟨77, _⟩ => ⟨S128x8192, .f32⟩
  | .hbm, ⟨78, _⟩ => ⟨S128x8192, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S128x8192, .f32⟩
  | .hbm, ⟨83, _⟩ => ⟨S128x8192, .f32⟩
  | .hbm, ⟨84, _⟩ => ⟨S_, .f32⟩
  | .hbm, ⟨85, _⟩ => ⟨S128x8192, .f32⟩
  | .hbm, ⟨86, _⟩ => ⟨S128x8192, .f32⟩
  | .hbm, ⟨87, _⟩ => ⟨S1x32768, .f32⟩
  | .hbm, ⟨88, _⟩ => ⟨S1x32768, .f32⟩
  | .hbm, ⟨89, _⟩ => ⟨S128x32768, .f32⟩
  | .hbm, ⟨90, _⟩ => ⟨S128x8192, .fp8e4m3⟩
  | .local _ .vmem, ⟨0, _⟩ => ⟨S128x8192, .f32⟩
  | .local _ .vmem, ⟨1, _⟩ => ⟨S8192x32768, .fp8e4m3⟩
  | .local _ .vmem, ⟨2, _⟩ => ⟨S128x1, .f32⟩
  | .local _ .vmem, ⟨3, _⟩ => ⟨S1x32768, .f32⟩
  | .local _ .vmem, ⟨4, _⟩ => ⟨S1x32768, .f32⟩
  | .local _ .vmem, ⟨5, _⟩ => ⟨S128x32768, .f32⟩
  | .local _ .vmem, ⟨6, _⟩ => ⟨S128x8192, .fp8e4m3⟩
  | _, _ => ⟨S128x1x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_call0_v0 : Ref sig .tc := ⟨.hbm, 32, rfl⟩
abbrev main_call0_v1 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_cst_7 : Ref sig .tc := ⟨.hbm, 38, rfl⟩
abbrev main_call1_v0 : Ref sig .tc := ⟨.hbm, 39, rfl⟩
abbrev main_call1_v1 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_cst_9 : Ref sig .tc := ⟨.hbm, 45, rfl⟩
abbrev main_v26 : Ref sig .tc := ⟨.hbm, 46, rfl⟩
abbrev main_v27 : Ref sig .tc := ⟨.hbm, 47, rfl⟩
abbrev main_cst_10 : Ref sig .tc := ⟨.hbm, 48, rfl⟩
abbrev main_v28 : Ref sig .tc := ⟨.hbm, 49, rfl⟩
abbrev main_v29 : Ref sig .tc := ⟨.hbm, 50, rfl⟩
abbrev main_cst_11 : Ref sig .tc := ⟨.hbm, 51, rfl⟩
abbrev main_call2_v0 : Ref sig .tc := ⟨.hbm, 52, rfl⟩
abbrev main_call2_v1 : Ref sig .tc := ⟨.hbm, 53, rfl⟩
abbrev main_v30 : Ref sig .tc := ⟨.hbm, 54, rfl⟩
abbrev main_cst_12 : Ref sig .tc := ⟨.hbm, 55, rfl⟩
abbrev main_call3_v0 : Ref sig .tc := ⟨.hbm, 56, rfl⟩
abbrev main_call3_v1 : Ref sig .tc := ⟨.hbm, 57, rfl⟩
abbrev main_v31 : Ref sig .tc := ⟨.hbm, 58, rfl⟩
abbrev main_v32 : Ref sig .tc := ⟨.hbm, 59, rfl⟩
abbrev main_cst_13 : Ref sig .tc := ⟨.hbm, 60, rfl⟩
abbrev main_v33 : Ref sig .tc := ⟨.hbm, 61, rfl⟩
abbrev main_v34 : Ref sig .tc := ⟨.hbm, 62, rfl⟩
abbrev main_cst_14 : Ref sig .tc := ⟨.hbm, 63, rfl⟩
abbrev main_v35 : Ref sig .tc := ⟨.hbm, 64, rfl⟩
abbrev main_v36 : Ref sig .tc := ⟨.hbm, 65, rfl⟩
abbrev main_cst_15 : Ref sig .tc := ⟨.hbm, 66, rfl⟩
abbrev main_v37 : Ref sig .tc := ⟨.hbm, 67, rfl⟩
abbrev main_v38 : Ref sig .tc := ⟨.hbm, 68, rfl⟩
abbrev main_cst_16 : Ref sig .tc := ⟨.hbm, 69, rfl⟩
abbrev main_call4_v0 : Ref sig .tc := ⟨.hbm, 70, rfl⟩
abbrev main_call4_v1 : Ref sig .tc := ⟨.hbm, 71, rfl⟩
abbrev main_v39 : Ref sig .tc := ⟨.hbm, 72, rfl⟩
abbrev main_cst_17 : Ref sig .tc := ⟨.hbm, 73, rfl⟩
abbrev main_call5_v0 : Ref sig .tc := ⟨.hbm, 74, rfl⟩
abbrev main_call5_v1 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_cst_18 : Ref sig .tc := ⟨.hbm, 79, rfl⟩
abbrev main_cst_19 : Ref sig .tc := ⟨.hbm, 80, rfl⟩
abbrev main_call6_v0 : Ref sig .tc := ⟨.hbm, 81, rfl⟩
abbrev main_call6_v1 : Ref sig .tc := ⟨.hbm, 82, rfl⟩
abbrev main_call6_v2 : Ref sig .tc := ⟨.hbm, 83, rfl⟩
abbrev main_call6_v3 : Ref sig .tc := ⟨.hbm, 84, rfl⟩
abbrev main_call6_v4 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46_0 : Ref sig .tc := ⟨.hbm, 89, rfl⟩
abbrev main_v46_1 : Ref sig .tc := ⟨.hbm, 90, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S128x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x32768 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x32768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x32768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x32768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x8192 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.PRuns.lean ====
/- What the two runs of the kernel's body are stated over: the body's one branch condition in closed form over the
   grid points, the windows that are never idle, the staging and scratch memrefs. -/
module

public import proofs.«01_k».proof.Proof.Gen.Kernel.Frame
public import proofs.«01_k».proof.Proof.Gen.Kernel.Skeleton
public import Idealize.ShloMosaic.Lib.Ring
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, k0_cond1, e0]
    word_cmp
   : ∀ t : Fin grid0.N, cond0_0 (grid0.coords t) ↔ t.val % 32 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S128x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x1024 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x8192 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x1 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S128x8192 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Gen

end
-- ==== Proof.PRunA.lean ====
/- The run of the kernel's body at the first point. -/
module

public import proofs.«01_k».proof.Proof.PRuns

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1532000 in
/-- The body at the first point: it fills the scratch with the rotated rows, stores the codes (pieces `L6`) and the scale
    (pieces `L7`), and then the first block of `y` (pieces `L5`). -/
noncomputable def kernelRun0_A (c : Dev nD) (i : grid0.Coords) (arg1 : Memref sig .tc .vmem S128x8192 .f32) (harg1 : arg1.IsWhole) (arg2 : Memref sig .tc .vmem S128x128 .f32) (harg2 : arg2.IsWhole) (arg3 : Memref sig .tc .vmem S8192x1024 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x1024 .f32) (harg6 : arg6.IsWhole) (arg7 : Memref sig .tc .vmem S128x8192 .fp8e4m3) (harg7 : arg7.IsWhole) (arg8 : Memref sig .tc .vmem S128x1 .f32) (harg8 : arg8.IsWhole) (arg9 : Memref sig .tc .vmem S128x8192 .f32) (harg9 : arg9.IsWhole) (hc0 : cond0_0 i)
    (x0 : Vec F S128x8192 .f32) (x1 : Vec F S128x128 .f32) (x2 : Vec F S8192x1024 .fp8e4m3) (x3 : Vec F S1x1024 .f32) (x4 : Vec F S1x1024 .f32) :
    Σ' (L5 : List (View.Piece (Elt F) S128x1024 .f32)) (L6 : List (View.Piece (Elt F) S128x8192 .fp8e4m3)), { L7 : List (View.Piece (Elt F) S128x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ d, owns (c : Thread nD τ) arg9 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9) K } := by
  refine ⟨?_, ?_, ?_, fun E K => ?run⟩
  case run =>
    simp only [cc0__body_eq_skeleton]; unfold cc0__body_skel
    simp only [k0_part20_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    iexists _, _; isplitr; swap; · iexact HS0
    ipureintro; rfl

end Cert.Kernel.Gen

end
-- ==== Proof.PRunB.lean ====
/- The run of the kernel's body at a point other than the first. -/
module

public import proofs.«01_k».proof.Proof.PRunA

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body at a point other than the first: the codes' and the scale's staging buffers are read and handed back as they
    were (`x6`, `x7`), the block of `y` gets the pieces `L5`, the scratch is left alone. -/
noncomputable def kernelRun0_B (c : Dev nD) (i : grid0.Coords) (arg1 : Memref sig .tc .vmem S128x8192 .f32) (harg1 : arg1.IsWhole) (arg2 : Memref sig .tc .vmem S128x128 .f32) (harg2 : arg2.IsWhole) (arg3 : Memref sig .tc .vmem S8192x1024 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x1024 .f32) (harg6 : arg6.IsWhole) (arg7 : Memref sig .tc .vmem S128x8192 .fp8e4m3) (harg7 : arg7.IsWhole) (arg8 : Memref sig .tc .vmem S128x1 .f32) (harg8 : arg8.IsWhole) (arg9 : Memref sig .tc .vmem S128x8192 .f32) (harg9 : arg9.IsWhole) (hc0 : ¬cond0_0 i)
    (x0 : Vec F S128x8192 .f32) (x1 : Vec F S128x128 .f32) (x2 : Vec F S8192x1024 .fp8e4m3) (x3 : Vec F S1x1024 .f32) (x4 : Vec F S1x1024 .f32) (x6 : Vec F S128x8192 .fp8e4m3) (x7 : Vec F S128x1 .f32) :
    { L5 : List (View.Piece (Elt F) S128x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare x6 ∗ owns (c : Thread nD τ) arg8 fullShare x7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare x6 ∗ owns (c : Thread nD τ) arg8 fullShare x7 ∗ (∃ d, owns (c : Thread nD τ) arg9 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9) K } := by
  refine ⟨?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    iexists _, _; isplitr; swap; · iexact HS0
    ipureintro; rfl

end Cert.Kernel.Gen

end
-- ==== Proof.PFrame.lean ====
/- The kernel's launch: what every execution leaves in the three results' arrays, point by point. -/
module

public import proofs.«01_k».proof.Proof.PRunB
public import Idealize.ShloMosaic.Lib.Pipeline.TableIdle
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The views the blocks' final contents are read through: the first slot's staging memrefs. -/
abbrev VO0_5 : View sig .tc .vmem S128x1024 .f32 := (Memref.whole cc0_stg5_0 : Memref sig .tc .vmem S128x1024 .f32).view
abbrev VO0_6 : View sig .tc .vmem S128x8192 .fp8e4m3 := (Memref.whole cc0_stg6_0 : Memref sig .tc .vmem S128x8192 .fp8e4m3).view
abbrev VO0_7 : View sig .tc .vmem S128x1 .f32 := (Memref.whole cc0_stg7_0 : Memref sig .tc .vmem S128x1 .f32).view

/-- The pieces the body stores into the block of `y` at the first point cover it. -/
theorem cover0_A_5 (c : Dev nD) (i : grid0.Coords) (arg1 : Memref sig .tc .vmem S128x8192 .f32) (harg1 : arg1.IsWhole) (arg2 : Memref sig .tc .vmem S128x128 .f32) (harg2 : arg2.IsWhole) (arg3 : Memref sig .tc .vmem S8192x1024 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x1024 .f32) (harg6 : arg6.IsWhole) (arg7 : Memref sig .tc .vmem S128x8192 .fp8e4m3) (harg7 : arg7.IsWhole) (arg8 : Memref sig .tc .vmem S128x1 .f32) (harg8 : arg8.IsWhole) (arg9 : Memref sig .tc .vmem S128x8192 .f32) (harg9 : arg9.IsWhole) (hc0 : cond0_0 i)
    (x0 : Vec F S128x8192 .f32) (x1 : Vec F S128x128 .f32) (x2 : Vec F S8192x1024 .fp8e4m3) (x3 : Vec F S1x1024 .f32) (x4 : Vec F S1x1024 .f32) (y : S128x1024.Idx) :
    ∃ pc ∈ (kernelRun0_A c i arg1 harg1 arg2 harg2 arg3 harg3 arg4 harg4 arg5 harg5 arg6 harg6 arg7 harg7 arg8 harg8 arg9 harg9 hc0 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4).1 S128x1024.size (by sl_kernel_rfl) y

/-- What the body leaves in the staging buffer of `y` at the first point. -/
def out0_A_5 (c : Dev nD) (i : grid0.Coords) (arg1 : Memref sig .tc .vmem S128x8192 .f32) (harg1 : arg1.IsWhole) (arg2 : Memref sig .tc .vmem S128x128 .f32) (harg2 : arg2.IsWhole) (arg3 : Memref sig .tc .vmem S8192x1024 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x1024 .f32) (harg6 : arg6.IsWhole) (arg7 : Memref sig .tc .vmem S128x8192 .fp8e4m3) (harg7 : arg7.IsWhole) (arg8 : Memref sig .tc .vmem S128x1 .f32) (harg8 : arg8.IsWhole) (arg9 : Memref sig .tc .vmem S128x8192 .f32) (harg9 : arg9.IsWhole) (hc0 : cond0_0 i)
    (x0 : Vec F S128x8192 .f32) (x1 : Vec F S128x128 .f32) (x2 : Vec F S8192x1024 .fp8e4m3) (x3 : Vec F S1x1024 .f32) (x4 : Vec F S1x1024 .f32) : Vec F S128x1024 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 hc0 x0 x1 x2 x3 x4).1)

/-- The pieces the body stores into the block of codes at the first point cover it. -/
theorem cover0_A_6 (c : Dev nD) (i : grid0.Coords) (arg1 : Memref sig .tc .vmem S128x8192 .f32) (harg1 : arg1.IsWhole) (arg2 : Memref sig .tc .vmem S128x128 .f32) (harg2 : arg2.IsWhole) (arg3 : Memref sig .tc .vmem S8192x1024 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x1024 .f32) (harg6 : arg6.IsWhole) (arg7 : Memref sig .tc .vmem S128x8192 .fp8e4m3) (harg7 : arg7.IsWhole) (arg8 : Memref sig .tc .vmem S128x1 .f32) (harg8 : arg8.IsWhole) (arg9 : Memref sig .tc .vmem S128x8192 .f32) (harg9 : arg9.IsWhole) (hc0 : cond0_0 i)
    (x0 : Vec F S128x8192 .f32) (x1 : Vec F S128x128 .f32) (x2 : Vec F S8192x1024 .fp8e4m3) (x3 : Vec F S1x1024 .f32) (x4 : Vec F S1x1024 .f32) (y : S128x8192.Idx) :
    ∃ pc ∈ (kernelRun0_A c i arg1 harg1 arg2 harg2 arg3 harg3 arg4 harg4 arg5 harg5 arg6 harg6 arg7 harg7 arg8 harg8 arg9 harg9 hc0 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4).2.1 S128x8192.size (by sl_kernel_rfl) y

/-- What the body leaves in the staging buffer of codes at the first point. -/
def out0_A_6 (c : Dev nD) (i : grid0.Coords) (arg1 : Memref sig .tc .vmem S128x8192 .f32) (harg1 : arg1.IsWhole) (arg2 : Memref sig .tc .vmem S128x128 .f32) (harg2 : arg2.IsWhole) (arg3 : Memref sig .tc .vmem S8192x1024 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x1024 .f32) (harg6 : arg6.IsWhole) (arg7 : Memref sig .tc .vmem S128x8192 .fp8e4m3) (harg7 : arg7.IsWhole) (arg8 : Memref sig .tc .vmem S128x1 .f32) (harg8 : arg8.IsWhole) (arg9 : Memref sig .tc .vmem S128x8192 .f32) (harg9 : arg9.IsWhole) (hc0 : cond0_0 i)
    (x0 : Vec F S128x8192 .f32) (x1 : Vec F S128x128 .f32) (x2 : Vec F S8192x1024 .fp8e4m3) (x3 : Vec F S1x1024 .f32) (x4 : Vec F S1x1024 .f32) : Vec F S128x8192 .fp8e4m3 :=
  VO0_6.read (Elt F) (VO0_6.writes (Elt F) VO0_6.junk (kernelRun0_A c i arg1 harg1 arg2 harg2 arg3 harg3 arg4 harg4 arg5 harg5 arg6 harg6 arg7 harg7 arg8 harg8 arg9 harg9 hc0 x0 x1 x2 x3 x4).2.1)

/-- The pieces the body stores into the block of scale at the first point cover it. -/
theorem cover0_A_7 (c : Dev nD) (i : grid0.Coords) (arg1 : Memref sig .tc .vmem S128x8192 .f32) (harg1 : arg1.IsWhole) (arg2 : Memref sig .tc .vmem S128x128 .f32) (harg2 : arg2.IsWhole) (arg3 : Memref sig .tc .vmem S8192x1024 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x1024 .f32) (harg6 : arg6.IsWhole) (arg7 : Memref sig .tc .vmem S128x8192 .fp8e4m3) (harg7 : arg7.IsWhole) (arg8 : Memref sig .tc .vmem S128x1 .f32) (harg8 : arg8.IsWhole) (arg9 : Memref sig .tc .vmem S128x8192 .f32) (harg9 : arg9.IsWhole) (hc0 : cond0_0 i)
    (x0 : Vec F S128x8192 .f32) (x1 : Vec F S128x128 .f32) (x2 : Vec F S8192x1024 .fp8e4m3) (x3 : Vec F S1x1024 .f32) (x4 : Vec F S1x1024 .f32) (y : S128x1.Idx) :
    ∃ pc ∈ (kernelRun0_A c i arg1 harg1 arg2 harg2 arg3 harg3 arg4 harg4 arg5 harg5 arg6 harg6 arg7 harg7 arg8 harg8 arg9 harg9 hc0 x0 x1 x2 x3 x4).2.2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4).2.2.1 S128x1.size (by sl_kernel_rfl) y

/-- What the body leaves in the staging buffer of scale at the first point. -/
def out0_A_7 (c : Dev nD) (i : grid0.Coords) (arg1 : Memref sig .tc .vmem S128x8192 .f32) (harg1 : arg1.IsWhole) (arg2 : Memref sig .tc .vmem S128x128 .f32) (harg2 : arg2.IsWhole) (arg3 : Memref sig .tc .vmem S8192x1024 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x1024 .f32) (harg6 : arg6.IsWhole) (arg7 : Memref sig .tc .vmem S128x8192 .fp8e4m3) (harg7 : arg7.IsWhole) (arg8 : Memref sig .tc .vmem S128x1 .f32) (harg8 : arg8.IsWhole) (arg9 : Memref sig .tc .vmem S128x8192 .f32) (harg9 : arg9.IsWhole) (hc0 : cond0_0 i)
    (x0 : Vec F S128x8192 .f32) (x1 : Vec F S128x128 .f32) (x2 : Vec F S8192x1024 .fp8e4m3) (x3 : Vec F S1x1024 .f32) (x4 : Vec F S1x1024 .f32) : Vec F S128x1 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 hc0 x0 x1 x2 x3 x4).2.2.1)

/-- The pieces the body stores into the block of `y` at a later point cover it. -/
theorem cover0_B_5 (c : Dev nD) (i : grid0.Coords) (arg1 : Memref sig .tc .vmem S128x8192 .f32) (harg1 : arg1.IsWhole) (arg2 : Memref sig .tc .vmem S128x128 .f32) (harg2 : arg2.IsWhole) (arg3 : Memref sig .tc .vmem S8192x1024 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x1024 .f32) (harg6 : arg6.IsWhole) (arg7 : Memref sig .tc .vmem S128x8192 .fp8e4m3) (harg7 : arg7.IsWhole) (arg8 : Memref sig .tc .vmem S128x1 .f32) (harg8 : arg8.IsWhole) (arg9 : Memref sig .tc .vmem S128x8192 .f32) (harg9 : arg9.IsWhole) (hc0 : ¬cond0_0 i)
    (x0 : Vec F S128x8192 .f32) (x1 : Vec F S128x128 .f32) (x2 : Vec F S8192x1024 .fp8e4m3) (x3 : Vec F S1x1024 .f32) (x4 : Vec F S1x1024 .f32) (x6 : Vec F S128x8192 .fp8e4m3) (x7 : Vec F S128x1 .f32) (y : S128x1024.Idx) :
    ∃ pc ∈ (kernelRun0_B c i arg1 harg1 arg2 harg2 arg3 harg3 arg4 harg4 arg5 harg5 arg6 harg6 arg7 harg7 arg8 harg8 arg9 harg9 hc0 x0 x1 x2 x3 x4 x6 x7).1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 x6 x7).1 S128x1024.size (by sl_kernel_rfl) y

/-- What the body leaves in the staging buffer of `y` at a later point. -/
def out0_B_5 (c : Dev nD) (i : grid0.Coords) (arg1 : Memref sig .tc .vmem S128x8192 .f32) (harg1 : arg1.IsWhole) (arg2 : Memref sig .tc .vmem S128x128 .f32) (harg2 : arg2.IsWhole) (arg3 : Memref sig .tc .vmem S8192x1024 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x1024 .f32) (harg6 : arg6.IsWhole) (arg7 : Memref sig .tc .vmem S128x8192 .fp8e4m3) (harg7 : arg7.IsWhole) (arg8 : Memref sig .tc .vmem S128x1 .f32) (harg8 : arg8.IsWhole) (arg9 : Memref sig .tc .vmem S128x8192 .f32) (harg9 : arg9.IsWhole) (hc0 : ¬cond0_0 i)
    (x0 : Vec F S128x8192 .f32) (x1 : Vec F S128x128 .f32) (x2 : Vec F S8192x1024 .fp8e4m3) (x3 : Vec F S1x1024 .f32) (x4 : Vec F S1x1024 .f32) (x6 : Vec F S128x8192 .fp8e4m3) (x7 : Vec F S128x1 .f32) : Vec F S128x1024 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 hc0 x0 x1 x2 x3 x4 x6 x7).1)

/-! ## What the outputs hold after each point -/

/-- The first grid point. -/
abbrev t0 : Fin cfg0.N := ⟨0, by rw [show cfg0.N = 32 from N_0]; decide⟩

theorem cond_t0 : cond0_0 (grid0.coords t0) := (hcond0_0 t0).mpr rfl

theorem eq_t0 (t : Fin cfg0.N) (h : t.val % 32 = 0) : t = t0 := by
  have ht : t.val < 32 := lt_of_lt_of_eq t.isLt (show cfg0.N = 32 from N_0)
  exact Fin.ext (show t.val = 0 by omega)

/-- The codes: what the first point stores. -/
def codes0 (c : Dev nD) : Vec F S128x8192 .fp8e4m3 :=
  out0_A_6 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) scM0_0 (Memref.isWhole_whole _) cond_t0 (iblk m c 0 t0) (iblk m c 1 t0) (iblk m c 2 t0) (iblk m c 3 t0) (iblk m c 4 t0)

/-- The scale: what the first point stores. -/
def scale0 (c : Dev nD) : Vec F S128x1 .f32 :=
  out0_A_7 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) scM0_0 (Memref.isWhole_whole _) cond_t0 (iblk m c 0 t0) (iblk m c 1 t0) (iblk m c 2 t0) (iblk m c 3 t0) (iblk m c 4 t0)

/-- The block of `y` after the body at point `t`. -/
def yblk0 (c : Dev nD) (t : Fin cfg0.N) : Vec F S128x1024 .f32 :=
  if h : t.val % 32 = 0 then
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h) (iblk m c 0 t) (iblk m c 1 t) (iblk m c 2 t) (iblk m c 3 t) (iblk m c 4 t)
  else
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h' => h ((hcond0_0 t).mp h')) (iblk m c 0 t) (iblk m c 1 t) (iblk m c 2 t) (iblk m c 3 t) (iblk m c 4 t) (codes0 m c) (scale0 m c)

/-! ## The pipeline's proof data -/

/-- The arrays as the region finds them; after the body at point `t` each input's buffer at its block, the block of `y`
    at `yblk0`, the codes' and the scale's buffers at what the first point stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => yblk0 m c t
    | ⟨6, _⟩ => codes0 m c
    | ⟨7, _⟩ => scale0 m c
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = yblk0 m c t := by dsimp only [dats]
theorem after0_6 (c : Dev nD) (t : Fin cfg0.N) : (dats m 0 c).after 6 t = codes0 m c := by dsimp only [dats]
theorem after0_7 (c : Dev nD) (t : Fin cfg0.N) : (dats m 0 c).after 7 t = scale0 m c := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The codes' window is idle at every point but the first. -/
theorem idle0_6 (t : Fin cfg0.N) : cfg0.idle 6 (grid0.coords t) = !decide (t.val % 32 = 0) := by
  have h := hcond0_0 t
  show (!(k0_cond1 (grid0.coords t) == 1#1)) = _
  congr 1
  rw [Bool.eq_iff_iff]; simp only [beq_iff_eq, decide_eq_true_eq]; exact h

/-- Its buffer holds nothing of the body's at the first point only. -/
theorem fresh0_6 (t : Fin cfg0.N) : cfg0.fresh 6 t.val = decide (t.val % 32 = 0) := by
  refine cfg0.fresh_tab 6 (fun n => decide (n % 32 = 0)) rfl (fun t => ?_) t.val t.isLt.le
  have ht : t.val < 32 := lt_of_lt_of_eq t.isLt (show cfg0.N = 32 from N_0)
  have hf := flush0_6 t
  rw [show cfg0.idle 6 (cfg0.grid.coords t) = _ from idle0_6 t]
  by_cases h : t.val % 32 = 31
  · rw [hf.mpr h]; simp only [Bool.true_or]; exact decide_eq_true (by omega)
  · rw [Bool.eq_false_iff.mpr (fun e => h (hf.mp e))]
    simp only [Bool.false_or, Bool.not_and_self]
    exact decide_eq_false (by omega)

/-- After the first point the body finds in the codes' buffer what the first point stored. -/
theorem before0_6 (c : Dev nD) (t : Fin cfg0.N) (h : ¬t.val % 32 = 0) (d) : (dats m 0 c).before 6 t d = codes0 m c := by
  refine ((dats m 0 c).before_out_traj 6 rfl (fun _ _ => rfl) (fun t ht _ _ => ?_) t.val t rfl d).trans ?_
  · rw [after0_6, after0_6]
  · rw [fresh0_6, if_neg (by simpa using h), after0_6]

/-- What a later point must leave in it: the same. -/
theorem leaves0_6 (c : Dev nD) (t : Fin cfg0.N) (h : ¬t.val % 32 = 0) :
    owns (c : Thread nD τ) (ms0_6 t) fullShare (codes0 m c) ⊢ ((dats m 0 c).leavesExact 6 t : sProp 𝕄) := by
  have hi : cfg0.idle 6 (cfg0.grid.coords t) = true := (idle0_6 t).trans (by simpa using h)
  unfold Dat.leavesExact; rw [hi]
  cases hf : (cfg0.win 6).flush t
  · iintro H; iexists (fun _ => default)
    rw [before0_6 m c t h]; iexact H
  · iintro H; dsimp only; rw [after0_6]; iexact H

/-- The scale' window is idle at every point but the first. -/
theorem idle0_7 (t : Fin cfg0.N) : cfg0.idle 7 (grid0.coords t) = !decide (t.val % 32 = 0) := by
  have h := hcond0_0 t
  show (!(k0_cond1 (grid0.coords t) == 1#1)) = _
  congr 1
  rw [Bool.eq_iff_iff]; simp only [beq_iff_eq, decide_eq_true_eq]; exact h

/-- Its buffer holds nothing of the body's at the first point only. -/
theorem fresh0_7 (t : Fin cfg0.N) : cfg0.fresh 7 t.val = decide (t.val % 32 = 0) := by
  refine cfg0.fresh_tab 7 (fun n => decide (n % 32 = 0)) rfl (fun t => ?_) t.val t.isLt.le
  have ht : t.val < 32 := lt_of_lt_of_eq t.isLt (show cfg0.N = 32 from N_0)
  have hf := flush0_7 t
  rw [show cfg0.idle 7 (cfg0.grid.coords t) = _ from idle0_7 t]
  by_cases h : t.val % 32 = 31
  · rw [hf.mpr h]; simp only [Bool.true_or]; exact decide_eq_true (by omega)
  · rw [Bool.eq_false_iff.mpr (fun e => h (hf.mp e))]
    simp only [Bool.false_or, Bool.not_and_self]
    exact decide_eq_false (by omega)

/-- After the first point the body finds in the scale' buffer what the first point stored. -/
theorem before0_7 (c : Dev nD) (t : Fin cfg0.N) (h : ¬t.val % 32 = 0) (d) : (dats m 0 c).before 7 t d = scale0 m c := by
  refine ((dats m 0 c).before_out_traj 7 rfl (fun _ _ => rfl) (fun t ht _ _ => ?_) t.val t rfl d).trans ?_
  · rw [after0_7, after0_7]
  · rw [fresh0_7, if_neg (by simpa using h), after0_7]

/-- What a later point must leave in it: the same. -/
theorem leaves0_7 (c : Dev nD) (t : Fin cfg0.N) (h : ¬t.val % 32 = 0) :
    owns (c : Thread nD τ) (ms0_7 t) fullShare (scale0 m c) ⊢ ((dats m 0 c).leavesExact 7 t : sProp 𝕄) := by
  have hi : cfg0.idle 7 (cfg0.grid.coords t) = true := (idle0_7 t).trans (by simpa using h)
  unfold Dat.leavesExact; rw [hi]
  cases hf : (cfg0.win 7).flush t
  · iintro H; iexists (fun _ => default)
    rw [before0_7 m c t h]; iexact H
  · iintro H; dsimp only; rw [after0_7]; iexact H

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem leaves0_6_A (c : Dev nD) : ((dats m 0 c).leavesExact 6 t0 : sProp 𝕄) = owns (c : Thread nD τ) (ms0_6 t0) fullShare (codes0 m c) := by
  unfold Dat.leavesExact
  rw [show cfg0.idle 6 (cfg0.grid.coords t0) = false from (idle0_6 t0).trans rfl, after0_6]

theorem leaves0_7_A (c : Dev nD) : ((dats m 0 c).leavesExact 7 t0 : sProp 𝕄) = owns (c : Thread nD τ) (ms0_7 t0) fullShare (scale0 m c) := by
  unfold Dat.leavesExact
  rw [show cfg0.idle 7 (cfg0.grid.coords t0) = false from (idle0_7 t0).trans rfl, after0_7]

set_option maxHeartbeats 1600000 in
/-- The body at any point: at the first, the first run; at a later one, the second, on the codes and the scale that
    the first point stored. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [(show cfg0.idle 5 (cfg0.grid.coords t) = false from rfl)], after0_5]
  by_cases h0 : t.val % 32 = 0
  · obtain rfl := eq_t0 t h0
    rw [leaves0_6_A, leaves0_7_A]
    unfold yblk0; rw [dif_pos h0]
    unfold codes0 scale0 out0_A_5 out0_A_6 out0_A_7; (try dsimp only)
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t0) _ _ _ _ _ _ _ _ _ _ _ _ _ _ _ _ _ _ cond_t0 (iblk m c 0 t0) (iblk m c 1 t0) (iblk m c 2 t0) (iblk m c 3 t0) (iblk m c 4 t0)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    iintro ⟨H0, H1, H2, H3, H4, ⟨%e5, H5⟩, ⟨%e6, H6⟩, ⟨%e7, H7⟩, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _ _ _)
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _)
    unfold owns; iexists _; isplitr
    swap; · iexact H7
    ipureintro; exact View.read_writes_of_cover _ _ _ _ _ (cover0_A_7 c _ _ _ _ _ _ _ _ _ _ _ _ _ _ _ _ _ _ _ _ _ _ _ _ _)
  · unfold yblk0; rw [dif_neg h0]
    unfold out0_B_5; (try dsimp only)
    simp only [before0_6 m c t h0, before0_7 m c t h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) (codes0 m c) (scale0 m c)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    iintro ⟨H0, H1, H2, H3, H4, ⟨%e5, H5⟩, H6, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _ _ _ _ _)
    isplitl [H6]
    · iapply (leaves0_6 m c t h0); iexact H6
    iapply (leaves0_7 m c t h0); iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- Every execution ends, the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Gen

end
-- ==== Proof.KRuns.lean ====
/- What the two runs of the kernel's body are stated over: the body's one branch condition in closed form over the
   grid points, the windows that are never idle, the staging and scratch memrefs. -/
module

public import proofs.«01_k».proof.Proof.Gen.KernelIdeal.Frame
public import proofs.«01_k».proof.Proof.Gen.KernelIdeal.Skeleton
public import Idealize.ShloMosaic.Lib.Ring
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, k0_cond1, e0]
    word_cmp
   : ∀ t : Fin grid0.N, cond0_0 (grid0.coords t) ↔ t.val % 32 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S128x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x1024 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x8192 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x1 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S128x8192 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Gen

end
-- ==== Proof.KRunA.lean ====
/- The run of the kernel's body at the first point. -/
module

public import proofs.«01_k».proof.Proof.KRuns

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1532000 in
/-- The body at the first point: it fills the scratch with the rotated rows, stores the codes (pieces `L6`) and the scale
    (pieces `L7`), and then the first block of `y` (pieces `L5`). -/
noncomputable def kernelRun0_A (c : Dev nD) (i : grid0.Coords) (arg1 : Memref sig .tc .vmem S128x8192 .f32) (harg1 : arg1.IsWhole) (arg2 : Memref sig .tc .vmem S128x128 .f32) (harg2 : arg2.IsWhole) (arg3 : Memref sig .tc .vmem S8192x1024 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x1024 .f32) (harg6 : arg6.IsWhole) (arg7 : Memref sig .tc .vmem S128x8192 .fp8e4m3) (harg7 : arg7.IsWhole) (arg8 : Memref sig .tc .vmem S128x1 .f32) (harg8 : arg8.IsWhole) (arg9 : Memref sig .tc .vmem S128x8192 .f32) (harg9 : arg9.IsWhole) (hc0 : cond0_0 i)
    (x0 : Vec F S128x8192 .f32) (x1 : Vec F S128x128 .f32) (x2 : Vec F S8192x1024 .fp8e4m3) (x3 : Vec F S1x1024 .f32) (x4 : Vec F S1x1024 .f32) :
    Σ' (L5 : List (View.Piece (Elt F) S128x1024 .f32)) (L6 : List (View.Piece (Elt F) S128x8192 .fp8e4m3)), { L7 : List (View.Piece (Elt F) S128x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ d, owns (c : Thread nD τ) arg9 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9) K } := by
  refine ⟨?_, ?_, ?_, fun E K => ?run⟩
  case run =>
    simp only [cc0__body_eq_skeleton]; unfold cc0__body_skel
    simp only [k0_part20_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    iexists _, _; isplitr; swap; · iexact HS0
    ipureintro; rfl

end Cert.KernelIdeal.Gen

end
-- ==== Proof.KRunB.lean ====
/- The run of the kernel's body at a point other than the first. -/
module

public import proofs.«01_k».proof.Proof.KRunA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body at a point other than the first: the codes' and the scale's staging buffers are read and handed back as they
    were (`x6`, `x7`), the block of `y` gets the pieces `L5`, the scratch is left alone. -/
noncomputable def kernelRun0_B (c : Dev nD) (i : grid0.Coords) (arg1 : Memref sig .tc .vmem S128x8192 .f32) (harg1 : arg1.IsWhole) (arg2 : Memref sig .tc .vmem S128x128 .f32) (harg2 : arg2.IsWhole) (arg3 : Memref sig .tc .vmem S8192x1024 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x1024 .f32) (harg6 : arg6.IsWhole) (arg7 : Memref sig .tc .vmem S128x8192 .fp8e4m3) (harg7 : arg7.IsWhole) (arg8 : Memref sig .tc .vmem S128x1 .f32) (harg8 : arg8.IsWhole) (arg9 : Memref sig .tc .vmem S128x8192 .f32) (harg9 : arg9.IsWhole) (hc0 : ¬cond0_0 i)
    (x0 : Vec F S128x8192 .f32) (x1 : Vec F S128x128 .f32) (x2 : Vec F S8192x1024 .fp8e4m3) (x3 : Vec F S1x1024 .f32) (x4 : Vec F S1x1024 .f32) (x6 : Vec F S128x8192 .fp8e4m3) (x7 : Vec F S128x1 .f32) :
    { L5 : List (View.Piece (Elt F) S128x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare x6 ∗ owns (c : Thread nD τ) arg8 fullShare x7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare x6 ∗ owns (c : Thread nD τ) arg8 fullShare x7 ∗ (∃ d, owns (c : Thread nD τ) arg9 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9) K } := by
  refine ⟨?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    iexists _, _; isplitr; swap; · iexact HS0
    ipureintro; rfl

end Cert.KernelIdeal.Gen

end
-- ==== Proof.KFrame.lean ====
/- The kernel's launch: what every execution leaves in the three results' arrays, point by point. -/
module

public import proofs.«01_k».proof.Proof.KRunB
public import Idealize.ShloMosaic.Lib.Pipeline.TableIdle
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The views the blocks' final contents are read through: the first slot's staging memrefs. -/
abbrev VO0_5 : View sig .tc .vmem S128x1024 .f32 := (Memref.whole cc0_stg5_0 : Memref sig .tc .vmem S128x1024 .f32).view
abbrev VO0_6 : View sig .tc .vmem S128x8192 .fp8e4m3 := (Memref.whole cc0_stg6_0 : Memref sig .tc .vmem S128x8192 .fp8e4m3).view
abbrev VO0_7 : View sig .tc .vmem S128x1 .f32 := (Memref.whole cc0_stg7_0 : Memref sig .tc .vmem S128x1 .f32).view

/-- The pieces the body stores into the block of `y` at the first point cover it. -/
theorem cover0_A_5 (c : Dev nD) (i : grid0.Coords) (arg1 : Memref sig .tc .vmem S128x8192 .f32) (harg1 : arg1.IsWhole) (arg2 : Memref sig .tc .vmem S128x128 .f32) (harg2 : arg2.IsWhole) (arg3 : Memref sig .tc .vmem S8192x1024 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x1024 .f32) (harg6 : arg6.IsWhole) (arg7 : Memref sig .tc .vmem S128x8192 .fp8e4m3) (harg7 : arg7.IsWhole) (arg8 : Memref sig .tc .vmem S128x1 .f32) (harg8 : arg8.IsWhole) (arg9 : Memref sig .tc .vmem S128x8192 .f32) (harg9 : arg9.IsWhole) (hc0 : cond0_0 i)
    (x0 : Vec F S128x8192 .f32) (x1 : Vec F S128x128 .f32) (x2 : Vec F S8192x1024 .fp8e4m3) (x3 : Vec F S1x1024 .f32) (x4 : Vec F S1x1024 .f32) (y : S128x1024.Idx) :
    ∃ pc ∈ (kernelRun0_A c i arg1 harg1 arg2 harg2 arg3 harg3 arg4 harg4 arg5 harg5 arg6 harg6 arg7 harg7 arg8 harg8 arg9 harg9 hc0 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4).1 S128x1024.size (by sl_kernel_rfl) y

/-- What the body leaves in the staging buffer of `y` at the first point. -/
def out0_A_5 (c : Dev nD) (i : grid0.Coords) (arg1 : Memref sig .tc .vmem S128x8192 .f32) (harg1 : arg1.IsWhole) (arg2 : Memref sig .tc .vmem S128x128 .f32) (harg2 : arg2.IsWhole) (arg3 : Memref sig .tc .vmem S8192x1024 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x1024 .f32) (harg6 : arg6.IsWhole) (arg7 : Memref sig .tc .vmem S128x8192 .fp8e4m3) (harg7 : arg7.IsWhole) (arg8 : Memref sig .tc .vmem S128x1 .f32) (harg8 : arg8.IsWhole) (arg9 : Memref sig .tc .vmem S128x8192 .f32) (harg9 : arg9.IsWhole) (hc0 : cond0_0 i)
    (x0 : Vec F S128x8192 .f32) (x1 : Vec F S128x128 .f32) (x2 : Vec F S8192x1024 .fp8e4m3) (x3 : Vec F S1x1024 .f32) (x4 : Vec F S1x1024 .f32) : Vec F S128x1024 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 hc0 x0 x1 x2 x3 x4).1)

/-- The pieces the body stores into the block of codes at the first point cover it. -/
theorem cover0_A_6 (c : Dev nD) (i : grid0.Coords) (arg1 : Memref sig .tc .vmem S128x8192 .f32) (harg1 : arg1.IsWhole) (arg2 : Memref sig .tc .vmem S128x128 .f32) (harg2 : arg2.IsWhole) (arg3 : Memref sig .tc .vmem S8192x1024 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x1024 .f32) (harg6 : arg6.IsWhole) (arg7 : Memref sig .tc .vmem S128x8192 .fp8e4m3) (harg7 : arg7.IsWhole) (arg8 : Memref sig .tc .vmem S128x1 .f32) (harg8 : arg8.IsWhole) (arg9 : Memref sig .tc .vmem S128x8192 .f32) (harg9 : arg9.IsWhole) (hc0 : cond0_0 i)
    (x0 : Vec F S128x8192 .f32) (x1 : Vec F S128x128 .f32) (x2 : Vec F S8192x1024 .fp8e4m3) (x3 : Vec F S1x1024 .f32) (x4 : Vec F S1x1024 .f32) (y : S128x8192.Idx) :
    ∃ pc ∈ (kernelRun0_A c i arg1 harg1 arg2 harg2 arg3 harg3 arg4 harg4 arg5 harg5 arg6 harg6 arg7 harg7 arg8 harg8 arg9 harg9 hc0 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4).2.1 S128x8192.size (by sl_kernel_rfl) y

/-- What the body leaves in the staging buffer of codes at the first point. -/
def out0_A_6 (c : Dev nD) (i : grid0.Coords) (arg1 : Memref sig .tc .vmem S128x8192 .f32) (harg1 : arg1.IsWhole) (arg2 : Memref sig .tc .vmem S128x128 .f32) (harg2 : arg2.IsWhole) (arg3 : Memref sig .tc .vmem S8192x1024 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x1024 .f32) (harg6 : arg6.IsWhole) (arg7 : Memref sig .tc .vmem S128x8192 .fp8e4m3) (harg7 : arg7.IsWhole) (arg8 : Memref sig .tc .vmem S128x1 .f32) (harg8 : arg8.IsWhole) (arg9 : Memref sig .tc .vmem S128x8192 .f32) (harg9 : arg9.IsWhole) (hc0 : cond0_0 i)
    (x0 : Vec F S128x8192 .f32) (x1 : Vec F S128x128 .f32) (x2 : Vec F S8192x1024 .fp8e4m3) (x3 : Vec F S1x1024 .f32) (x4 : Vec F S1x1024 .f32) : Vec F S128x8192 .fp8e4m3 :=
  VO0_6.read (Elt F) (VO0_6.writes (Elt F) VO0_6.junk (kernelRun0_A c i arg1 harg1 arg2 harg2 arg3 harg3 arg4 harg4 arg5 harg5 arg6 harg6 arg7 harg7 arg8 harg8 arg9 harg9 hc0 x0 x1 x2 x3 x4).2.1)

/-- The pieces the body stores into the block of scale at the first point cover it. -/
theorem cover0_A_7 (c : Dev nD) (i : grid0.Coords) (arg1 : Memref sig .tc .vmem S128x8192 .f32) (harg1 : arg1.IsWhole) (arg2 : Memref sig .tc .vmem S128x128 .f32) (harg2 : arg2.IsWhole) (arg3 : Memref sig .tc .vmem S8192x1024 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x1024 .f32) (harg6 : arg6.IsWhole) (arg7 : Memref sig .tc .vmem S128x8192 .fp8e4m3) (harg7 : arg7.IsWhole) (arg8 : Memref sig .tc .vmem S128x1 .f32) (harg8 : arg8.IsWhole) (arg9 : Memref sig .tc .vmem S128x8192 .f32) (harg9 : arg9.IsWhole) (hc0 : cond0_0 i)
    (x0 : Vec F S128x8192 .f32) (x1 : Vec F S128x128 .f32) (x2 : Vec F S8192x1024 .fp8e4m3) (x3 : Vec F S1x1024 .f32) (x4 : Vec F S1x1024 .f32) (y : S128x1.Idx) :
    ∃ pc ∈ (kernelRun0_A c i arg1 harg1 arg2 harg2 arg3 harg3 arg4 harg4 arg5 harg5 arg6 harg6 arg7 harg7 arg8 harg8 arg9 harg9 hc0 x0 x1 x2 x3 x4).2.2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4).2.2.1 S128x1.size (by sl_kernel_rfl) y

/-- What the body leaves in the staging buffer of scale at the first point. -/
def out0_A_7 (c : Dev nD) (i : grid0.Coords) (arg1 : Memref sig .tc .vmem S128x8192 .f32) (harg1 : arg1.IsWhole) (arg2 : Memref sig .tc .vmem S128x128 .f32) (harg2 : arg2.IsWhole) (arg3 : Memref sig .tc .vmem S8192x1024 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x1024 .f32) (harg6 : arg6.IsWhole) (arg7 : Memref sig .tc .vmem S128x8192 .fp8e4m3) (harg7 : arg7.IsWhole) (arg8 : Memref sig .tc .vmem S128x1 .f32) (harg8 : arg8.IsWhole) (arg9 : Memref sig .tc .vmem S128x8192 .f32) (harg9 : arg9.IsWhole) (hc0 : cond0_0 i)
    (x0 : Vec F S128x8192 .f32) (x1 : Vec F S128x128 .f32) (x2 : Vec F S8192x1024 .fp8e4m3) (x3 : Vec F S1x1024 .f32) (x4 : Vec F S1x1024 .f32) : Vec F S128x1 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 hc0 x0 x1 x2 x3 x4).2.2.1)

/-- The pieces the body stores into the block of `y` at a later point cover it. -/
theorem cover0_B_5 (c : Dev nD) (i : grid0.Coords) (arg1 : Memref sig .tc .vmem S128x8192 .f32) (harg1 : arg1.IsWhole) (arg2 : Memref sig .tc .vmem S128x128 .f32) (harg2 : arg2.IsWhole) (arg3 : Memref sig .tc .vmem S8192x1024 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x1024 .f32) (harg6 : arg6.IsWhole) (arg7 : Memref sig .tc .vmem S128x8192 .fp8e4m3) (harg7 : arg7.IsWhole) (arg8 : Memref sig .tc .vmem S128x1 .f32) (harg8 : arg8.IsWhole) (arg9 : Memref sig .tc .vmem S128x8192 .f32) (harg9 : arg9.IsWhole) (hc0 : ¬cond0_0 i)
    (x0 : Vec F S128x8192 .f32) (x1 : Vec F S128x128 .f32) (x2 : Vec F S8192x1024 .fp8e4m3) (x3 : Vec F S1x1024 .f32) (x4 : Vec F S1x1024 .f32) (x6 : Vec F S128x8192 .fp8e4m3) (x7 : Vec F S128x1 .f32) (y : S128x1024.Idx) :
    ∃ pc ∈ (kernelRun0_B c i arg1 harg1 arg2 harg2 arg3 harg3 arg4 harg4 arg5 harg5 arg6 harg6 arg7 harg7 arg8 harg8 arg9 harg9 hc0 x0 x1 x2 x3 x4 x6 x7).1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 x6 x7).1 S128x1024.size (by sl_kernel_rfl) y

/-- What the body leaves in the staging buffer of `y` at a later point. -/
def out0_B_5 (c : Dev nD) (i : grid0.Coords) (arg1 : Memref sig .tc .vmem S128x8192 .f32) (harg1 : arg1.IsWhole) (arg2 : Memref sig .tc .vmem S128x128 .f32) (harg2 : arg2.IsWhole) (arg3 : Memref sig .tc .vmem S8192x1024 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x1024 .f32) (harg6 : arg6.IsWhole) (arg7 : Memref sig .tc .vmem S128x8192 .fp8e4m3) (harg7 : arg7.IsWhole) (arg8 : Memref sig .tc .vmem S128x1 .f32) (harg8 : arg8.IsWhole) (arg9 : Memref sig .tc .vmem S128x8192 .f32) (harg9 : arg9.IsWhole) (hc0 : ¬cond0_0 i)
    (x0 : Vec F S128x8192 .f32) (x1 : Vec F S128x128 .f32) (x2 : Vec F S8192x1024 .fp8e4m3) (x3 : Vec F S1x1024 .f32) (x4 : Vec F S1x1024 .f32) (x6 : Vec F S128x8192 .fp8e4m3) (x7 : Vec F S128x1 .f32) : Vec F S128x1024 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 hc0 x0 x1 x2 x3 x4 x6 x7).1)

/-! ## What the outputs hold after each point -/

/-- The first grid point. -/
abbrev t0 : Fin cfg0.N := ⟨0, by rw [show cfg0.N = 32 from N_0]; decide⟩

theorem cond_t0 : cond0_0 (grid0.coords t0) := (hcond0_0 t0).mpr rfl

theorem eq_t0 (t : Fin cfg0.N) (h : t.val % 32 = 0) : t = t0 := by
  have ht : t.val < 32 := lt_of_lt_of_eq t.isLt (show cfg0.N = 32 from N_0)
  exact Fin.ext (show t.val = 0 by omega)

/-- The codes: what the first point stores. -/
def codes0 (c : Dev nD) : Vec F S128x8192 .fp8e4m3 :=
  out0_A_6 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) scM0_0 (Memref.isWhole_whole _) cond_t0 (iblk m c 0 t0) (iblk m c 1 t0) (iblk m c 2 t0) (iblk m c 3 t0) (iblk m c 4 t0)

/-- The scale: what the first point stores. -/
def scale0 (c : Dev nD) : Vec F S128x1 .f32 :=
  out0_A_7 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) scM0_0 (Memref.isWhole_whole _) cond_t0 (iblk m c 0 t0) (iblk m c 1 t0) (iblk m c 2 t0) (iblk m c 3 t0) (iblk m c 4 t0)

/-- The block of `y` after the body at point `t`. -/
def yblk0 (c : Dev nD) (t : Fin cfg0.N) : Vec F S128x1024 .f32 :=
  if h : t.val % 32 = 0 then
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h) (iblk m c 0 t) (iblk m c 1 t) (iblk m c 2 t) (iblk m c 3 t) (iblk m c 4 t)
  else
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h' => h ((hcond0_0 t).mp h')) (iblk m c 0 t) (iblk m c 1 t) (iblk m c 2 t) (iblk m c 3 t) (iblk m c 4 t) (codes0 m c) (scale0 m c)

/-! ## The pipeline's proof data -/

/-- The arrays as the region finds them; after the body at point `t` each input's buffer at its block, the block of `y`
    at `yblk0`, the codes' and the scale's buffers at what the first point stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => yblk0 m c t
    | ⟨6, _⟩ => codes0 m c
    | ⟨7, _⟩ => scale0 m c
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = yblk0 m c t := by dsimp only [dats]
theorem after0_6 (c : Dev nD) (t : Fin cfg0.N) : (dats m 0 c).after 6 t = codes0 m c := by dsimp only [dats]
theorem after0_7 (c : Dev nD) (t : Fin cfg0.N) : (dats m 0 c).after 7 t = scale0 m c := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The codes' window is idle at every point but the first. -/
theorem idle0_6 (t : Fin cfg0.N) : cfg0.idle 6 (grid0.coords t) = !decide (t.val % 32 = 0) := by
  have h := hcond0_0 t
  show (!(k0_cond1 (grid0.coords t) == 1#1)) = _
  congr 1
  rw [Bool.eq_iff_iff]; simp only [beq_iff_eq, decide_eq_true_eq]; exact h

/-- Its buffer holds nothing of the body's at the first point only. -/
theorem fresh0_6 (t : Fin cfg0.N) : cfg0.fresh 6 t.val = decide (t.val % 32 = 0) := by
  refine cfg0.fresh_tab 6 (fun n => decide (n % 32 = 0)) rfl (fun t => ?_) t.val t.isLt.le
  have ht : t.val < 32 := lt_of_lt_of_eq t.isLt (show cfg0.N = 32 from N_0)
  have hf := flush0_6 t
  rw [show cfg0.idle 6 (cfg0.grid.coords t) = _ from idle0_6 t]
  by_cases h : t.val % 32 = 31
  · rw [hf.mpr h]; simp only [Bool.true_or]; exact decide_eq_true (by omega)
  · rw [Bool.eq_false_iff.mpr (fun e => h (hf.mp e))]
    simp only [Bool.false_or, Bool.not_and_self]
    exact decide_eq_false (by omega)

/-- After the first point the body finds in the codes' buffer what the first point stored. -/
theorem before0_6 (c : Dev nD) (t : Fin cfg0.N) (h : ¬t.val % 32 = 0) (d) : (dats m 0 c).before 6 t d = codes0 m c := by
  refine ((dats m 0 c).before_out_traj 6 rfl (fun _ _ => rfl) (fun t ht _ _ => ?_) t.val t rfl d).trans ?_
  · rw [after0_6, after0_6]
  · rw [fresh0_6, if_neg (by simpa using h), after0_6]

/-- What a later point must leave in it: the same. -/
theorem leaves0_6 (c : Dev nD) (t : Fin cfg0.N) (h : ¬t.val % 32 = 0) :
    owns (c : Thread nD τ) (ms0_6 t) fullShare (codes0 m c) ⊢ ((dats m 0 c).leavesExact 6 t : sProp 𝕄) := by
  have hi : cfg0.idle 6 (cfg0.grid.coords t) = true := (idle0_6 t).trans (by simpa using h)
  unfold Dat.leavesExact; rw [hi]
  cases hf : (cfg0.win 6).flush t
  · iintro H; iexists (fun _ => default)
    rw [before0_6 m c t h]; iexact H
  · iintro H; dsimp only; rw [after0_6]; iexact H

/-- The scale' window is idle at every point but the first. -/
theorem idle0_7 (t : Fin cfg0.N) : cfg0.idle 7 (grid0.coords t) = !decide (t.val % 32 = 0) := by
  have h := hcond0_0 t
  show (!(k0_cond1 (grid0.coords t) == 1#1)) = _
  congr 1
  rw [Bool.eq_iff_iff]; simp only [beq_iff_eq, decide_eq_true_eq]; exact h

/-- Its buffer holds nothing of the body's at the first point only. -/
theorem fresh0_7 (t : Fin cfg0.N) : cfg0.fresh 7 t.val = decide (t.val % 32 = 0) := by
  refine cfg0.fresh_tab 7 (fun n => decide (n % 32 = 0)) rfl (fun t => ?_) t.val t.isLt.le
  have ht : t.val < 32 := lt_of_lt_of_eq t.isLt (show cfg0.N = 32 from N_0)
  have hf := flush0_7 t
  rw [show cfg0.idle 7 (cfg0.grid.coords t) = _ from idle0_7 t]
  by_cases h : t.val % 32 = 31
  · rw [hf.mpr h]; simp only [Bool.true_or]; exact decide_eq_true (by omega)
  · rw [Bool.eq_false_iff.mpr (fun e => h (hf.mp e))]
    simp only [Bool.false_or, Bool.not_and_self]
    exact decide_eq_false (by omega)

/-- After the first point the body finds in the scale' buffer what the first point stored. -/
theorem before0_7 (c : Dev nD) (t : Fin cfg0.N) (h : ¬t.val % 32 = 0) (d) : (dats m 0 c).before 7 t d = scale0 m c := by
  refine ((dats m 0 c).before_out_traj 7 rfl (fun _ _ => rfl) (fun t ht _ _ => ?_) t.val t rfl d).trans ?_
  · rw [after0_7, after0_7]
  · rw [fresh0_7, if_neg (by simpa using h), after0_7]

/-- What a later point must leave in it: the same. -/
theorem leaves0_7 (c : Dev nD) (t : Fin cfg0.N) (h : ¬t.val % 32 = 0) :
    owns (c : Thread nD τ) (ms0_7 t) fullShare (scale0 m c) ⊢ ((dats m 0 c).leavesExact 7 t : sProp 𝕄) := by
  have hi : cfg0.idle 7 (cfg0.grid.coords t) = true := (idle0_7 t).trans (by simpa using h)
  unfold Dat.leavesExact; rw [hi]
  cases hf : (cfg0.win 7).flush t
  · iintro H; iexists (fun _ => default)
    rw [before0_7 m c t h]; iexact H
  · iintro H; dsimp only; rw [after0_7]; iexact H

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem leaves0_6_A (c : Dev nD) : ((dats m 0 c).leavesExact 6 t0 : sProp 𝕄) = owns (c : Thread nD τ) (ms0_6 t0) fullShare (codes0 m c) := by
  unfold Dat.leavesExact
  rw [show cfg0.idle 6 (cfg0.grid.coords t0) = false from (idle0_6 t0).trans rfl, after0_6]

theorem leaves0_7_A (c : Dev nD) : ((dats m 0 c).leavesExact 7 t0 : sProp 𝕄) = owns (c : Thread nD τ) (ms0_7 t0) fullShare (scale0 m c) := by
  unfold Dat.leavesExact
  rw [show cfg0.idle 7 (cfg0.grid.coords t0) = false from (idle0_7 t0).trans rfl, after0_7]

set_option maxHeartbeats 1600000 in
/-- The body at any point: at the first, the first run; at a later one, the second, on the codes and the scale that
    the first point stored. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [(show cfg0.idle 5 (cfg0.grid.coords t) = false from rfl)], after0_5]
  by_cases h0 : t.val % 32 = 0
  · obtain rfl := eq_t0 t h0
    rw [leaves0_6_A, leaves0_7_A]
    unfold yblk0; rw [dif_pos h0]
    unfold codes0 scale0 out0_A_5 out0_A_6 out0_A_7; (try dsimp only)
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t0) _ _ _ _ _ _ _ _ _ _ _ _ _ _ _ _ _ _ cond_t0 (iblk m c 0 t0) (iblk m c 1 t0) (iblk m c 2 t0) (iblk m c 3 t0) (iblk m c 4 t0)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    iintro ⟨H0, H1, H2, H3, H4, ⟨%e5, H5⟩, ⟨%e6, H6⟩, ⟨%e7, H7⟩, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _ _ _)
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _)
    unfold owns; iexists _; isplitr
    swap; · iexact H7
    ipureintro; exact View.read_writes_of_cover _ _ _ _ _ (cover0_A_7 c _ _ _ _ _ _ _ _ _ _ _ _ _ _ _ _ _ _ _ _ _ _ _ _ _)
  · unfold yblk0; rw [dif_neg h0]
    unfold out0_B_5; (try dsimp only)
    simp only [before0_6 m c t h0, before0_7 m c t h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) (codes0 m c) (scale0 m c)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    iintro ⟨H0, H1, H2, H3, H4, ⟨%e5, H5⟩, H6, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _ _ _ _ _)
    isplitl [H6]
    · iapply (leaves0_6 m c t h0); iexact H6
    iapply (leaves0_7 m c t h0); iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- Every execution ends, the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Gen

end
-- ==== Proof.KXr.lean ====
/- The rotated activations: each group of 128 columns, and the row maxima over the groups, in closed form. -/
module

public import proofs.«01_k».proof.Proof.KFrame
public import Idealize.ShloMosaic.Lib.Pipeline.ValueKit
public import Idealize.ShloMosaic.Lib.WholeRead
public import Idealize.ShloMosaic.Lib.Pointwise

@[expose] public section

set_option maxRecDepth 200000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The pieces of the rotated activations, in closed form -/

/-- The 128 columns of an activation block that start at column `o`. -/
def cols (x0 : Vec F S128x8192 .f32) (o : ℕ) : Vec F S128x128 .f32 :=
  fun j => x0 (ValueIdx.ix2 (j 0) ⟨(o + (j 1 : ℕ)) % 8192, Nat.mod_lt _ (by decide)⟩)

/-- One group of 128 columns times the 128 × 128 matrix. -/
def grpDot (x1 xg : Vec F S128x128 .f32) : FVec F S128x128 .f32 :=
  matmul dot_S128x128_S128x128_S128x128_1_0_0_1_n_n (some .fp32) (shapeCast S128x128 xg shapeCasts_S128x128_S128x128) x1
    (constant S128x128 .f32 0x00000000#32)

/-- The largest absolute value of each row of one rotated group. -/
def rowMax (x1 xg : Vec F S128x128 .f32) : FVec F S128x1 .f32 :=
  shapeCast S128x1 (multiReduction .maximumf [1] S128 (absf (grpDot x1 xg)) 0xFF800000#32 reduces_S128x128_S128 (.inl rfl) rfl)
    shapeCasts_S128_S128x1

/-- The running row maximum after `n` groups, from zero. -/
def amaxTo (x0 : Vec F S128x8192 .f32) (x1 : Vec F S128x128 .f32) : ℕ → FVec F S128x1 .f32
  | 0 => broadcast S128x1 (Scalar.ofBits .f32 0x00000000#32)
  | n + 1 => maximumf (amaxTo x0 x1 n) (rowMax x1 (cols x0 (128 * n)))

/-- A load of 128 columns of the whole activation block reads those columns. -/
theorem readAt_cols (arg1 : Memref sig .tc .vmem S128x8192 .f32) (harg1 : arg1.IsWhole) (x0 : Vec F S128x8192 .f32) (o : ℕ)
    (inb : ∀ a, (![0, o] : Fin 2 → ℕ) a + S128x128.size a ≤ S128x8192.size a) :
    View.readAt (Elt F) arg1.view (Rect.unit (s := S128x8192) ![0, o] (no_index S128x128.size) inb).toLoadRect (harg1.unread x0) = cols x0 o := by
  funext j
  rw [harg1.readAt_unread x0]
  have h1 : o + 128 ≤ 8192 := inb 1
  have h2 : (j 1 : ℕ) < 128 := (j 1).isLt
  unfold cols
  refine congrArg x0 (funext fun a => ?_)
  match a with
  | ⟨0, _⟩ => exact Fin.ext (by simp [ValueIdx.ix2])
  | ⟨1, _⟩ => exact Fin.ext (by
      have : (o + (j 1 : ℕ)) % 8192 = o + (j 1 : ℕ) := Nat.mod_eq_of_lt (by omega)
      simp [ValueIdx.ix2]; omega)

/-- The load of the whole matrix reads it. -/
theorem r_eq (c : Dev nD) (arg2 : Memref sig .tc .vmem S128x128 .f32) (harg2 : arg2.IsWhole) (x1 : Vec F S128x128 .f32) :
    kernelRun0_A.sl.r c arg2 harg2 x1 = x1 := by
  funext j
  unfold kernelRun0_A.sl.r
  rw [harg2.readAt_unread x1]
  refine congrArg x1 (funext fun a => ?_)
  match a with
  | ⟨0, _⟩ => exact Fin.ext (by simp)
  | ⟨1, _⟩ => exact Fin.ext (by simp)

/-- The running maximum after 3 groups. -/
theorem r_1_eq (c : Dev nD) (arg1 : Memref sig .tc .vmem S128x8192 .f32) (harg1 : arg1.IsWhole) (arg2 : Memref sig .tc .vmem S128x128 .f32) (harg2 : arg2.IsWhole) (x0 : Vec F S128x8192 .f32) (x1 : Vec F S128x128 .f32) :
    kernelRun0_A.sl.r_1 c arg1 harg1 arg2 harg2 x0 x1 = amaxTo x0 x1 3 := by
  have hr := r_eq c arg2 harg2 x1
  unfold kernelRun0_A.sl.r at hr
  simp only [kernelRun0_A.sl.r_1, readAt_cols, hr, r_eq]
  simp only [k0_pay3, k0_pay4, k0_pay5, k0_pay6, k0_pay7, k0_pay8, k0_pay9]
  rfl

/-- The running maximum after 6 groups. -/
theorem r_3_eq (c : Dev nD) (arg1 : Memref sig .tc .vmem S128x8192 .f32) (harg1 : arg1.IsWhole) (arg2 : Memref sig .tc .vmem S128x128 .f32) (harg2 : arg2.IsWhole) (x0 : Vec F S128x8192 .f32) (x1 : Vec F S128x128 .f32) :
    kernelRun0_A.sl.r_3 c arg1 harg1 arg2 harg2 x0 x1 = amaxTo x0 x1 6 := by
  have hr := r_eq c arg2 harg2 x1
  unfold kernelRun0_A.sl.r at hr
  simp only [kernelRun0_A.sl.r_3, kernelRun0_A.sl.r_2, readAt_cols, hr, r_eq, r_1_eq]
  simp only [k0_pay10, k0_pay11, k0_pay12, k0_pay13, k0_pay14, k0_pay15, k0_pay16, k0_pay17]
  rfl

/-- The running maximum after 10 groups. -/
theorem r_5_eq (c : Dev nD) (arg1 : Memref sig .tc .vmem S128x8192 .f32) (harg1 : arg1.IsWhole) (arg2 : Memref sig .tc .vmem S128x128 .f32) (harg2 : arg2.IsWhole) (x0 : Vec F S128x8192 .f32) (x1 : Vec F S128x128 .f32) :
    kernelRun0_A.sl.r_5 c arg1 harg1 arg2 harg2 x0 x1 = amaxTo x0 x1 10 := by
  have hr := r_eq c arg2 harg2 x1
  unfold kernelRun0_A.sl.r at hr
  simp only [kernelRun0_A.sl.r_5, kernelRun0_A.sl.r_4, readAt_cols, hr, r_eq, r_3_eq]
  simp only [k0_pay18, k0_pay19, k0_pay20, k0_pay21, k0_pay22, k0_pay23, k0_pay24, k0_pay25, k0_pay26, k0_pay27]
  rfl

/-- The running maximum after 13 groups. -/
theorem r_7_eq (c : Dev nD) (arg1 : Memref sig .tc .vmem S128x8192 .f32) (harg1 : arg1.IsWhole) (arg2 : Memref sig .tc .vmem S128x128 .f32) (harg2 : arg2.IsWhole) (x0 : Vec F S128x8192 .f32) (x1 : Vec F S128x128 .f32) :
    kernelRun0_A.sl.r_7 c arg1 harg1 arg2 harg2 x0 x1 = amaxTo x0 x1 13 := by
  have hr := r_eq c arg2 harg2 x1
  unfold kernelRun0_A.sl.r at hr
  simp only [kernelRun0_A.sl.r_7, kernelRun0_A.sl.r_6, readAt_cols, hr, r_eq, r_5_eq]
  simp only [k0_pay28, k0_pay29, k0_pay30, k0_pay31, k0_pay32, k0_pay33, k0_pay34, k0_pay35]
  rfl

/-- The running maximum after 17 groups. -/
theorem r_9_eq (c : Dev nD) (arg1 : Memref sig .tc .vmem S128x8192 .f32) (harg1 : arg1.IsWhole) (arg2 : Memref sig .tc .vmem S128x128 .f32) (harg2 : arg2.IsWhole) (x0 : Vec F S128x8192 .f32) (x1 : Vec F S128x128 .f32) :
    kernelRun0_A.sl.r_9 c arg1 harg1 arg2 harg2 x0 x1 = amaxTo x0 x1 17 := by
  have hr := r_eq c arg2 harg2 x1
  unfold kernelRun0_A.sl.r at hr
  simp only [kernelRun0_A.sl.r_9, kernelRun0_A.sl.r_8, readAt_cols, hr, r_eq, r_7_eq]
  simp only [k0_pay36, k0_pay37, k0_pay38, k0_pay39, k0_pay40, k0_pay41, k0_pay42, k0_pay43, k0_pay44, k0_pay45]
  rfl

/-- The running maximum after 20 groups. -/
theorem r_11_eq (c : Dev nD) (arg1 : Memref sig .tc .vmem S128x8192 .f32) (harg1 : arg1.IsWhole) (arg2 : Memref sig .tc .vmem S128x128 .f32) (harg2 : arg2.IsWhole) (x0 : Vec F S128x8192 .f32) (x1 : Vec F S128x128 .f32) :
    kernelRun0_A.sl.r_11 c arg1 harg1 arg2 harg2 x0 x1 = amaxTo x0 x1 20 := by
  have hr := r_eq c arg2 harg2 x1
  unfold kernelRun0_A.sl.r at hr
  simp only [kernelRun0_A.sl.r_11, kernelRun0_A.sl.r_10, readAt_cols, hr, r_eq, r_9_eq]
  simp only [k0_pay46, k0_pay47, k0_pay48, k0_pay49, k0_pay50, k0_pay51, k0_pay52]
  rfl

/-- The running maximum after 24 groups. -/
theorem r_13_eq (c : Dev nD) (arg1 : Memref sig .tc .vmem S128x8192 .f32) (harg1 : arg1.IsWhole) (arg2 : Memref sig .tc .vmem S128x128 .f32) (harg2 : arg2.IsWhole) (x0 : Vec F S128x8192 .f32) (x1 : Vec F S128x128 .f32) :
    kernelRun0_A.sl.r_13 c arg1 harg1 arg2 harg2 x0 x1 = amaxTo x0 x1 24 := by
  have hr := r_eq c arg2 harg2 x1
  unfold kernelRun0_A.sl.r at hr
  simp only [kernelRun0_A.sl.r_13, kernelRun0_A.sl.r_12, readAt_cols, hr, r_eq, r_11_eq]
  simp only [k0_pay53, k0_pay54, k0_pay55, k0_pay56, k0_pay57, k0_pay58, k0_pay59, k0_pay60, k0_pay61, k0_pay62]
  rfl

/-- The running maximum after 27 groups. -/
theorem r_15_eq (c : Dev nD) (arg1 : Memref sig .tc .vmem S128x8192 .f32) (harg1 : arg1.IsWhole) (arg2 : Memref sig .tc .vmem S128x128 .f32) (harg2 : arg2.IsWhole) (x0 : Vec F S128x8192 .f32) (x1 : Vec F S128x128 .f32) :
    kernelRun0_A.sl.r_15 c arg1 harg1 arg2 harg2 x0 x1 = amaxTo x0 x1 27 := by
  have hr := r_eq c arg2 harg2 x1
  unfold kernelRun0_A.sl.r at hr
  simp only [kernelRun0_A.sl.r_15, kernelRun0_A.sl.r_14, readAt_cols, hr, r_eq, r_13_eq]
  simp only [k0_pay63, k0_pay64, k0_pay65, k0_pay66, k0_pay67, k0_pay68, k0_pay69]
  rfl

/-- The running maximum after 31 groups. -/
theorem r_17_eq (c : Dev nD) (arg1 : Memref sig .tc .vmem S128x8192 .f32) (harg1 : arg1.IsWhole) (arg2 : Memref sig .tc .vmem S128x128 .f32) (harg2 : arg2.IsWhole) (x0 : Vec F S128x8192 .f32) (x1 : Vec F S128x128 .f32) :
    kernelRun0_A.sl.r_17 c arg1 harg1 arg2 harg2 x0 x1 = amaxTo x0 x1 31 := by
  have hr := r_eq c arg2 harg2 x1
  unfold kernelRun0_A.sl.r at hr
  simp only [kernelRun0_A.sl.r_17, kernelRun0_A.sl.r_16, readAt_cols, hr, r_eq, r_15_eq]
  simp only [k0_pay70, k0_pay71, k0_pay72, k0_pay73, k0_pay74, k0_pay75, k0_pay76, k0_pay77, k0_pay78, k0_pay79]
  rfl

/-- The running maximum after 35 groups. -/
theorem r_19_eq (c : Dev nD) (arg1 : Memref sig .tc .vmem S128x8192 .f32) (harg1 : arg1.IsWhole) (arg2 : Memref sig .tc .vmem S128x128 .f32) (harg2 : arg2.IsWhole) (x0 : Vec F S128x8192 .f32) (x1 : Vec F S128x128 .f32) :
    kernelRun0_A.sl.r_19 c arg1 harg1 arg2 harg2 x0 x1 = amaxTo x0 x1 35 := by
  have hr := r_eq c arg2 harg2 x1
  unfold kernelRun0_A.sl.r at hr
  simp only [kernelRun0_A.sl.r_19, kernelRun0_A.sl.r_18, readAt_cols, hr, r_eq, r_17_eq]
  simp only [k0_pay80, k0_pay81, k0_pay82, k0_pay83, k0_pay84, k0_pay85, k0_pay86, k0_pay87, k0_pay88]
  rfl

/-- The running maximum after 38 groups. -/
theorem r_20_eq (c : Dev nD) (arg1 : Memref sig .tc .vmem S128x8192 .f32) (harg1 : arg1.IsWhole) (arg2 : Memref sig .tc .vmem S128x128 .f32) (harg2 : arg2.IsWhole) (x0 : Vec F S128x8192 .f32) (x1 : Vec F S128x128 .f32) :
    kernelRun0_A.sl.r_20 c arg1 harg1 arg2 harg2 x0 x1 = amaxTo x0 x1 38 := by
  have hr := r_eq c arg2 harg2 x1
  unfold kernelRun0_A.sl.r at hr
  simp only [kernelRun0_A.sl.r_20, readAt_cols, hr, r_eq, r_19_eq]
  simp only [k0_pay89, k0_pay90, k0_pay91, k0_pay92, k0_pay93, k0_pay94, k0_pay95]
  rfl

/-- The running maximum after 42 groups. -/
theorem r_22_eq (c : Dev nD) (arg1 : Memref sig .tc .vmem S128x8192 .f32) (harg1 : arg1.IsWhole) (arg2 : Memref sig .tc .vmem S128x128 .f32) (harg2 : arg2.IsWhole) (x0 : Vec F S128x8192 .f32) (x1 : Vec F S128x128 .f32) :
    kernelRun0_A.sl.r_22 c arg1 harg1 arg2 harg2 x0 x1 = amaxTo x0 x1 42 := by
  have hr := r_eq c arg2 harg2 x1
  unfold kernelRun0_A.sl.r at hr
  simp only [kernelRun0_A.sl.r_22, kernelRun0_A.sl.r_21, readAt_cols, hr, r_eq, r_20_eq]
  simp only [k0_pay96, k0_pay97, k0_pay98, k0_pay99, k0_pay100, k0_pay101, k0_pay102, k0_pay103, k0_pay104]
  rfl

/-- The running maximum after 45 groups. -/
theorem r_23_eq (c : Dev nD) (arg1 : Memref sig .tc .vmem S128x8192 .f32) (harg1 : arg1.IsWhole) (arg2 : Memref sig .tc .vmem S128x128 .f32) (harg2 : arg2.IsWhole) (x0 : Vec F S128x8192 .f32) (x1 : Vec F S128x128 .f32) :
    kernelRun0_A.sl.r_23 c arg1 harg1 arg2 harg2 x0 x1 = amaxTo x0 x1 45 := by
  have hr := r_eq c arg2 harg2 x1
  unfold kernelRun0_A.sl.r at hr
  simp only [kernelRun0_A.sl.r_23, readAt_cols, hr, r_eq, r_22_eq]
  simp only [k0_pay105, k0_pay106, k0_pay107, k0_pay108, k0_pay109, k0_pay110, k0_pay111]
  rfl

/-- The running maximum after 49 groups. -/
theorem r_25_eq (c : Dev nD) (arg1 : Memref sig .tc .vmem S128x8192 .f32) (harg1 : arg1.IsWhole) (arg2 : Memref sig .tc .vmem S128x128 .f32) (harg2 : arg2.IsWhole) (x0 : Vec F S128x8192 .f32) (x1 : Vec F S128x128 .f32) :
    kernelRun0_A.sl.r_25 c arg1 harg1 arg2 harg2 x0 x1 = amaxTo x0 x1 49 := by
  have hr := r_eq c arg2 harg2 x1
  unfold kernelRun0_A.sl.r at hr
  simp only [kernelRun0_A.sl.r_25, kernelRun0_A.sl.r_24, readAt_cols, hr, r_eq, r_23_eq]
  simp only [k0_pay112, k0_pay113, k0_pay114, k0_pay115, k0_pay116, k0_pay117, k0_pay118, k0_pay119, k0_pay120]
  rfl

/-- The running maximum after 52 groups. -/
theorem r_26_eq (c : Dev nD) (arg1 : Memref sig .tc .vmem S128x8192 .f32) (harg1 : arg1.IsWhole) (arg2 : Memref sig .tc .vmem S128x128 .f32) (harg2 : arg2.IsWhole) (x0 : Vec F S128x8192 .f32) (x1 : Vec F S128x128 .f32) :
    kernelRun0_A.sl.r_26 c arg1 harg1 arg2 harg2 x0 x1 = amaxTo x0 x1 52 := by
  have hr := r_eq c arg2 harg2 x1
  unfold kernelRun0_A.sl.r at hr
  simp only [kernelRun0_A.sl.r_26, readAt_cols, hr, r_eq, r_25_eq]
  simp only [k0_pay121, k0_pay122, k0_pay123, k0_pay124, k0_pay125, k0_pay126, k0_pay127]
  rfl

/-- The running maximum after 56 groups. -/
theorem r_29_eq (c : Dev nD) (arg1 : Memref sig .tc .vmem S128x8192 .f32) (harg1 : arg1.IsWhole) (arg2 : Memref sig .tc .vmem S128x128 .f32) (harg2 : arg2.IsWhole) (x0 : Vec F S128x8192 .f32) (x1 : Vec F S128x128 .f32) :
    kernelRun0_A.sl.r_29 c arg1 harg1 arg2 harg2 x0 x1 = amaxTo x0 x1 56 := by
  have hr := r_eq c arg2 harg2 x1
  unfold kernelRun0_A.sl.r at hr
  simp only [kernelRun0_A.sl.r_29, kernelRun0_A.sl.r_27, kernelRun0_A.sl.r_28, readAt_cols, hr, r_eq, r_26_eq]
  simp only [k0_pay128, k0_pay129, k0_pay130, k0_pay131, k0_pay132, k0_pay133, k0_pay134, k0_pay135, k0_pay136]
  rfl

/-- The running maximum after 59 groups. -/
theorem r_31_eq (c : Dev nD) (arg1 : Memref sig .tc .vmem S128x8192 .f32) (harg1 : arg1.IsWhole) (arg2 : Memref sig .tc .vmem S128x128 .f32) (harg2 : arg2.IsWhole) (x0 : Vec F S128x8192 .f32) (x1 : Vec F S128x128 .f32) :
    kernelRun0_A.sl.r_31 c arg1 harg1 arg2 harg2 x0 x1 = amaxTo x0 x1 59 := by
  have hr := r_eq c arg2 harg2 x1
  unfold kernelRun0_A.sl.r at hr
  simp only [kernelRun0_A.sl.r_31, kernelRun0_A.sl.r_30, readAt_cols, hr, r_eq, r_29_eq]
  simp only [k0_pay137, k0_pay138, k0_pay139, k0_pay140, k0_pay141, k0_pay142, k0_pay143]
  rfl

/-- The running maximum after 63 groups. -/
theorem r_33_eq (c : Dev nD) (arg1 : Memref sig .tc .vmem S128x8192 .f32) (harg1 : arg1.IsWhole) (arg2 : Memref sig .tc .vmem S128x128 .f32) (harg2 : arg2.IsWhole) (x0 : Vec F S128x8192 .f32) (x1 : Vec F S128x128 .f32) :
    kernelRun0_A.sl.r_33 c arg1 harg1 arg2 harg2 x0 x1 = amaxTo x0 x1 63 := by
  have hr := r_eq c arg2 harg2 x1
  unfold kernelRun0_A.sl.r at hr
  simp only [kernelRun0_A.sl.r_33, kernelRun0_A.sl.r_32, readAt_cols, hr, r_eq, r_31_eq]
  simp only [k0_pay144, k0_pay145, k0_pay146, k0_pay147, k0_pay148, k0_pay149, k0_pay150, k0_pay151, k0_pay152]
  rfl

/-- The last group's columns. -/
theorem r_34_eq (c : Dev nD) (arg1 : Memref sig .tc .vmem S128x8192 .f32) (harg1 : arg1.IsWhole) (x0 : Vec F S128x8192 .f32) :
    kernelRun0_A.sl.r_34 c arg1 harg1 x0 = shapeCast S128x128 (cols x0 8064) shapeCasts_S128x128_S128x128 := by
  unfold kernelRun0_A.sl.r_34 k0_pay153
  rw [readAt_cols]

end Cert.KernelIdeal.Gen
-- ==== Proof.KXs.lean ====
/- The scratch array read back: the rotated activations of all 64 groups. -/
module

public import proofs.«01_k».proof.Proof.KXr
public import Idealize.ShloMosaic.Lib.Pipeline.ValueKit

@[expose] public section

set_option maxRecDepth 200000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- All rotated activations: column `128 g + l` is column `l` of group `g`. -/
def rotated (x0 : Vec F S128x8192 .f32) (x1 : Vec F S128x128 .f32) : FVec F S128x8192 .f32 :=
  fun y => grpDot x1 (cols x0 (128 * ((y 1 : ℕ) / 128))) (ValueIdx.ix2 (y 0) ⟨(y 1 : ℕ) % 128, Nat.mod_lt _ (by decide)⟩)

/-- At the index a piece's element lies at, the rotated activations are the piece's own group's product. -/
theorem piece_eq (x0 : Vec F S128x8192 .f32) (x1 : Vec F S128x128 .f32) (o : ℕ) (ho : o % 128 = 0) (x : S128x128.Idx) (y : S128x8192.Idx)
    (h0 : (y 0 : ℕ) = (x 0 : ℕ)) (h1 : (y 1 : ℕ) = o + (x 1 : ℕ)) :
    shapeCast S128x128 (grpDot x1 (cols x0 o)) shapeCasts_S128x128_S128x128 x = rotated x0 x1 y := by
  have hx : (x 1 : ℕ) < 128 := (x 1).isLt
  rw [shapeCast_self]
  unfold rotated
  have e1 : 128 * ((y 1 : ℕ) / 128) = o := by omega
  have e2 : (y 1 : ℕ) % 128 = x 1 := by omega
  rw [e1]
  refine congrArg _ (funext fun a => ?_)
  match a with
  | ⟨0, _⟩ => exact Fin.ext (by simp [ValueIdx.ix2]; omega)
  | ⟨1, _⟩ => exact Fin.ext (by simp [ValueIdx.ix2]; omega)

/-- A load of the whole matrix reads it. -/
theorem readAt_mat (arg2 : Memref sig .tc .vmem S128x128 .f32) (harg2 : arg2.IsWhole) (x1 : Vec F S128x128 .f32)
    (inb : ∀ a, (![0, 0] : Fin 2 → ℕ) a + S128x128.size a ≤ S128x128.size a) :
    View.readAt (Elt F) arg2.view (Rect.unit (s := S128x128) ![0, 0] (no_index S128x128.size) inb).toLoadRect (harg2.unread x1) = x1 :=
  r_eq default arg2 harg2 x1

/-- The 64 stores together leave the rotated activations. -/
theorem canon_eq (c : Dev nD) (arg1 : Memref sig .tc .vmem S128x8192 .f32) (harg1 : arg1.IsWhole) (arg2 : Memref sig .tc .vmem S128x128 .f32) (harg2 : arg2.IsWhole) (arg9 : Memref sig .tc .vmem S128x8192 .f32) (x0 : Vec F S128x8192 .f32) (x1 : Vec F S128x128 .f32)
    (y : S128x8192.Idx) :
    View.canon (kernelRun0_A.sl.HS0_64 c arg1 harg1 arg2 harg2 x0 x1) y = rotated x0 x1 y := by
  unfold kernelRun0_A.sl.HS0_64
  simp only [kernelRun0_A.sl.r_2, kernelRun0_A.sl.r_4, kernelRun0_A.sl.r_6, kernelRun0_A.sl.r_8, kernelRun0_A.sl.r_10, kernelRun0_A.sl.r_12, kernelRun0_A.sl.r_14, kernelRun0_A.sl.r_16, kernelRun0_A.sl.r_18, kernelRun0_A.sl.r_21, kernelRun0_A.sl.r_24, kernelRun0_A.sl.r_27, kernelRun0_A.sl.r_28, kernelRun0_A.sl.r_30, kernelRun0_A.sl.r_32, kernelRun0_A.sl.r_34, r_eq, readAt_cols, readAt_mat]
  canon_tiles x h
  all_goals first
    | exact piece_eq x0 x1 _ rfl x y h0 h1
    | exact piece_eq x0 x1 0 rfl x y h0 (h1.trans (Nat.zero_add _).symm)

/-- What the kernel reads back from its scratch array after storing every group: the rotated activations. -/
theorem v718_eq (c : Dev nD) (arg1 : Memref sig .tc .vmem S128x8192 .f32) (harg1 : arg1.IsWhole) (arg2 : Memref sig .tc .vmem S128x128 .f32) (harg2 : arg2.IsWhole) (arg9 : Memref sig .tc .vmem S128x8192 .f32) (x0 : Vec F S128x8192 .f32) (x1 : Vec F S128x128 .f32) :
    kernelRun0_A.sl.v718 c arg1 harg1 arg2 harg2 arg9 x0 x1 = rotated x0 x1 := by
  unfold kernelRun0_A.sl.v718
  rw [View.readCov_eq_canon']
  funext j
  refine (canon_eq c arg1 harg1 arg2 harg2 arg9 x0 x1 _).trans (congrArg _ (funext fun a => ?_))
  match a with
  | ⟨0, _⟩ => exact Fin.ext (by simp)
  | ⟨1, _⟩ => exact Fin.ext (by simp)

end Cert.KernelIdeal.Gen
-- ==== Proof.KVal.lean ====
/- What the body stores at each point, in closed form. -/
module

public import proofs.«01_k».proof.Proof.KXs
public import Idealize.ShloMosaic.Lib.Pipeline.ValueKit
public import Idealize.ShloMosaic.Lib.WholeRead

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What the body stores, in closed form -/

/-- The row exponents, as the kernel computes them from the row maxima. -/
def eWord (A : FVec F S128x1 .f32) : IVec S128x1 32 :=
  let v : FVec F S128x1 .f32 := mulf A (broadcast S128x1 (Scalar.ofBits .f32 0x3B124925#32))
  let pw : FVec F S1x255 .f32 := bitcastToFloat .f32
    (shli (addi (iota .tc S1x255 32 [1] iota_S1x255_d1_w32) (broadcast S1x255 1#32)) (broadcast S1x255 23#32))
  let ge : IVec S128x255 1 := cmpf .oge (broadcastTo S128x255 v broadcasts_S128x1_S128x255) (broadcastTo S128x255 pw broadcasts_S1x255_S128x255)
  let n : IVec S128x1 32 := shapeCast S128x1 (multiReductionI .add [1] S128 (extui 32 ge natLt_1_32) 0#32 reduces_S128x255_S128 rfl) shapeCasts_S128_S128x1
  select (cmpf .oeq A (broadcast S128x1 (Scalar.ofBits .f32 0x00000000#32))) (broadcast S128x1 0#32)
    (select (ori (cmpi .eq n (broadcast S128x1 0#32)) (cmpi .eq n (broadcast S128x1 255#32))) (broadcast S128x1 0#32)
      (subi n (broadcast S128x1 126#32)))

/-- A power of two built from its biased exponent. -/
def pow2Word (b : IVec S128x1 32) : FVec F S128x1 .f32 :=
  bitcastToFloat .f32 (select (cmpi .sle b (broadcast S128x1 0#32)) (broadcast S128x1 0#32)
    (select (cmpi .sge b (broadcast S128x1 255#32)) (broadcast S128x1 2139095040#32) (shli b (broadcast S128x1 23#32))))

/-- The scale of each row. -/
def scaleV (x0 : Vec F S128x8192 .f32) (x1 : Vec F S128x128 .f32) : FVec F S128x1 .f32 :=
  pow2Word (addi (eWord (amaxTo x0 x1 64)) (broadcast S128x1 127#32))

/-- The codes. -/
def codesV (x0 : Vec F S128x8192 .f32) (x1 : Vec F S128x128 .f32) : FVec F S128x8192 .fp8e4m3 :=
  k0_pay1 (mulf (rotated x0 x1) (broadcastTo S128x8192
    (pow2Word (addi (subi (broadcast S128x1 0#32) (eWord (amaxTo x0 x1 64))) (broadcast S128x1 127#32))) broadcasts_S128x1_S128x8192))
    (FloatOps.ofBits .f32 3286237184#32)

/-- A load of the whole of block 3 reads it. -/
theorem readAt_whole3 (arg3 : Memref sig .tc .vmem S8192x1024 .fp8e4m3) (harg3 : arg3.IsWhole) (x : Vec F S8192x1024 .fp8e4m3)
    (inb : ∀ a, (![0, 0] : Fin 2 → ℕ) a + S8192x1024.size a ≤ S8192x1024.size a) :
    View.readAt (Elt F) arg3.view (Rect.unit (s := S8192x1024) ![0, 0] (no_index S8192x1024.size) inb).toLoadRect (harg3.unread x) = x := by
  funext j
  rw [harg3.readAt_unread x]
  refine congrArg x (funext fun a => ?_)
  match a with
  | ⟨0, _⟩ => exact Fin.ext (by simp)
  | ⟨1, _⟩ => exact Fin.ext (by simp)

/-- A load of the whole of block 4 reads it. -/
theorem readAt_whole4 (arg4 : Memref sig .tc .vmem S1x1024 .f32) (harg4 : arg4.IsWhole) (x : Vec F S1x1024 .f32)
    (inb : ∀ a, (![0, 0] : Fin 2 → ℕ) a + S1x1024.size a ≤ S1x1024.size a) :
    View.readAt (Elt F) arg4.view (Rect.unit (s := S1x1024) ![0, 0] (no_index S1x1024.size) inb).toLoadRect (harg4.unread x) = x := by
  funext j
  rw [harg4.readAt_unread x]
  refine congrArg x (funext fun a => ?_)
  match a with
  | ⟨0, _⟩ => exact Fin.ext (by simp)
  | ⟨1, _⟩ => exact Fin.ext (by simp)

/-- A load of the whole of block 7 reads it. -/
theorem readAt_whole7 (arg7 : Memref sig .tc .vmem S128x8192 .fp8e4m3) (harg7 : arg7.IsWhole) (x : Vec F S128x8192 .fp8e4m3)
    (inb : ∀ a, (![0, 0] : Fin 2 → ℕ) a + S128x8192.size a ≤ S128x8192.size a) :
    View.readAt (Elt F) arg7.view (Rect.unit (s := S128x8192) ![0, 0] (no_index S128x8192.size) inb).toLoadRect (harg7.unread x) = x := by
  funext j
  rw [harg7.readAt_unread x]
  refine congrArg x (funext fun a => ?_)
  match a with
  | ⟨0, _⟩ => exact Fin.ext (by simp)
  | ⟨1, _⟩ => exact Fin.ext (by simp)

/-- A load of the whole of block 8 reads it. -/
theorem readAt_whole8 (arg8 : Memref sig .tc .vmem S128x1 .f32) (harg8 : arg8.IsWhole) (x : Vec F S128x1 .f32)
    (inb : ∀ a, (![0, 0] : Fin 2 → ℕ) a + S128x1.size a ≤ S128x1.size a) :
    View.readAt (Elt F) arg8.view (Rect.unit (s := S128x1) ![0, 0] (no_index S128x1.size) inb).toLoadRect (harg8.unread x) = x := by
  funext j
  rw [harg8.readAt_unread x]
  refine congrArg x (funext fun a => ?_)
  match a with
  | ⟨0, _⟩ => exact Fin.ext (by simp)
  | ⟨1, _⟩ => exact Fin.ext (by simp)

/-- The stored scale. -/
theorem H7_eq (c : Dev nD) (arg1 : Memref sig .tc .vmem S128x8192 .f32) (harg1 : arg1.IsWhole) (arg2 : Memref sig .tc .vmem S128x128 .f32) (harg2 : arg2.IsWhole) (x0 : Vec F S128x8192 .f32) (x1 : Vec F S128x128 .f32) :
    View.canon (kernelRun0_A.sl.H7_1 c arg1 harg1 arg2 harg2 x0 x1) = scaleV x0 x1 := by
  unfold kernelRun0_A.sl.H7_1
  rw [View.canon_cons_unit_lit' _ _ _ (by decide)]
  unfold kernelRun0_A.sl.r_36 kernelRun0_A.sl.r_37 kernelRun0_A.sl.r_38
  rw [r_eq, r_33_eq, r_34_eq]
  rfl

/-- The stored codes. -/
theorem H6_eq (c : Dev nD) (arg1 : Memref sig .tc .vmem S128x8192 .f32) (harg1 : arg1.IsWhole) (arg2 : Memref sig .tc .vmem S128x128 .f32) (harg2 : arg2.IsWhole) (arg9 : Memref sig .tc .vmem S128x8192 .f32) (x0 : Vec F S128x8192 .f32) (x1 : Vec F S128x128 .f32) :
    View.canon (kernelRun0_A.sl.H6_1 c arg1 harg1 arg2 harg2 arg9 x0 x1) = codesV x0 x1 := by
  unfold kernelRun0_A.sl.H6_1
  rw [View.canon_cons_unit_lit' _ _ _ (by decide)]
  unfold kernelRun0_A.sl.r_39 kernelRun0_A.sl.r_35
  rw [r_eq, r_33_eq, r_34_eq, v718_eq]
  rfl

/-- What the first point leaves in the buffer of the scale. -/
theorem out0_A_7_eq (c : Dev nD) (i : grid0.Coords) (arg1 : Memref sig .tc .vmem S128x8192 .f32) (harg1 : arg1.IsWhole) (arg2 : Memref sig .tc .vmem S128x128 .f32) (harg2 : arg2.IsWhole) (arg3 : Memref sig .tc .vmem S8192x1024 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x1024 .f32) (harg6 : arg6.IsWhole) (arg7 : Memref sig .tc .vmem S128x8192 .fp8e4m3) (harg7 : arg7.IsWhole) (arg8 : Memref sig .tc .vmem S128x1 .f32) (harg8 : arg8.IsWhole) (arg9 : Memref sig .tc .vmem S128x8192 .f32) (harg9 : arg9.IsWhole) (hc0 : cond0_0 i) (x0 : Vec F S128x8192 .f32) (x1 : Vec F S128x128 .f32) (x2 : Vec F S8192x1024 .fp8e4m3) (x3 : Vec F S1x1024 .f32) (x4 : Vec F S1x1024 .f32) :
    out0_A_7 c i arg1 harg1 arg2 harg2 arg3 harg3 arg4 harg4 arg5 harg5 arg6 harg6 arg7 harg7 arg8 harg8 arg9 harg9 hc0 x0 x1 x2 x3 x4 = scaleV x0 x1 := by
  unfold out0_A_7
  rw [View.read_writes_junk_eq_canon]
  exact H7_eq c arg1 harg1 arg2 harg2 x0 x1

/-- What the first point leaves in the buffer of the codes. -/
theorem out0_A_6_eq (c : Dev nD) (i : grid0.Coords) (arg1 : Memref sig .tc .vmem S128x8192 .f32) (harg1 : arg1.IsWhole) (arg2 : Memref sig .tc .vmem S128x128 .f32) (harg2 : arg2.IsWhole) (arg3 : Memref sig .tc .vmem S8192x1024 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x1024 .f32) (harg6 : arg6.IsWhole) (arg7 : Memref sig .tc .vmem S128x8192 .fp8e4m3) (harg7 : arg7.IsWhole) (arg8 : Memref sig .tc .vmem S128x1 .f32) (harg8 : arg8.IsWhole) (arg9 : Memref sig .tc .vmem S128x8192 .f32) (harg9 : arg9.IsWhole) (hc0 : cond0_0 i) (x0 : Vec F S128x8192 .f32) (x1 : Vec F S128x128 .f32) (x2 : Vec F S8192x1024 .fp8e4m3) (x3 : Vec F S1x1024 .f32) (x4 : Vec F S1x1024 .f32) :
    out0_A_6 c i arg1 harg1 arg2 harg2 arg3 harg3 arg4 harg4 arg5 harg5 arg6 harg6 arg7 harg7 arg8 harg8 arg9 harg9 hc0 x0 x1 x2 x3 x4 = codesV x0 x1 := by
  unfold out0_A_6
  rw [View.read_writes_junk_eq_canon]
  exact H6_eq c arg1 harg1 arg2 harg2 arg9 x0 x1

/-- What the first point leaves in the buffer of `y`. -/
theorem out0_A_5_eq (c : Dev nD) (i : grid0.Coords) (arg1 : Memref sig .tc .vmem S128x8192 .f32) (harg1 : arg1.IsWhole) (arg2 : Memref sig .tc .vmem S128x128 .f32) (harg2 : arg2.IsWhole) (arg3 : Memref sig .tc .vmem S8192x1024 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x1024 .f32) (harg6 : arg6.IsWhole) (arg7 : Memref sig .tc .vmem S128x8192 .fp8e4m3) (harg7 : arg7.IsWhole) (arg8 : Memref sig .tc .vmem S128x1 .f32) (harg8 : arg8.IsWhole) (arg9 : Memref sig .tc .vmem S128x8192 .f32) (harg9 : arg9.IsWhole) (hc0 : cond0_0 i) (x0 : Vec F S128x8192 .f32) (x1 : Vec F S128x128 .f32) (x2 : Vec F S8192x1024 .fp8e4m3) (x3 : Vec F S1x1024 .f32) (x4 : Vec F S1x1024 .f32) :
    out0_A_5 c i arg1 harg1 arg2 harg2 arg3 harg3 arg4 harg4 arg5 harg5 arg6 harg6 arg7 harg7 arg8 harg8 arg9 harg9 hc0 x0 x1 x2 x3 x4 = k0_pay2 (codesV x0 x1) x2 (scaleV x0 x1) x3 x4 := by
  have h3 : kernelRun0_A.sl.v3 c arg1 harg1 arg2 harg2 arg7 arg9 x0 x1 = codesV x0 x1 := by
    unfold kernelRun0_A.sl.v3
    rw [View.readCov_eq_canon', H6_eq]
    refine funext fun j => congrArg _ (funext fun a => ?_)
    match a with
    | ⟨0, _⟩ => exact Fin.ext (by simp)
    | ⟨1, _⟩ => exact Fin.ext (by simp)
  have h7 : kernelRun0_A.sl.v7 c arg1 harg1 arg2 harg2 arg8 x0 x1 = scaleV x0 x1 := by
    unfold kernelRun0_A.sl.v7
    rw [View.readCov_eq_canon', H7_eq]
    refine funext fun j => congrArg _ (funext fun a => ?_)
    match a with
    | ⟨0, _⟩ => exact Fin.ext (by simp)
    | ⟨1, _⟩ => exact Fin.ext (by simp)
  unfold out0_A_5
  rw [View.read_writes_junk_eq_canon]
  dsimp only [kernelRun0_A]
  rw [View.canon_cons_unit_lit' _ _ _ (by decide), h3, h7, readAt_whole4, readAt_whole4]
  exact congrArg (fun z => k0_pay2 (codesV x0 x1) z (scaleV x0 x1) x3 x4) (readAt_whole3 arg3 harg3 x2 _)

/-- What a later point leaves in the buffer of `y`. -/
theorem out0_B_5_eq (c : Dev nD) (i : grid0.Coords) (arg1 : Memref sig .tc .vmem S128x8192 .f32) (harg1 : arg1.IsWhole) (arg2 : Memref sig .tc .vmem S128x128 .f32) (harg2 : arg2.IsWhole) (arg3 : Memref sig .tc .vmem S8192x1024 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x1024 .f32) (harg6 : arg6.IsWhole) (arg7 : Memref sig .tc .vmem S128x8192 .fp8e4m3) (harg7 : arg7.IsWhole) (arg8 : Memref sig .tc .vmem S128x1 .f32) (harg8 : arg8.IsWhole) (arg9 : Memref sig .tc .vmem S128x8192 .f32) (harg9 : arg9.IsWhole) (hc0 : ¬cond0_0 i) (x0 : Vec F S128x8192 .f32) (x1 : Vec F S128x128 .f32) (x2 : Vec F S8192x1024 .fp8e4m3) (x3 : Vec F S1x1024 .f32) (x4 : Vec F S1x1024 .f32) (x6 : Vec F S128x8192 .fp8e4m3) (x7 : Vec F S128x1 .f32) :
    out0_B_5 c i arg1 harg1 arg2 harg2 arg3 harg3 arg4 harg4 arg5 harg5 arg6 harg6 arg7 harg7 arg8 harg8 arg9 harg9 hc0 x0 x1 x2 x3 x4 x6 x7 = k0_pay2 x6 x2 x7 x3 x4 := by
  unfold out0_B_5
  rw [View.read_writes_junk_eq_canon]
  dsimp only [kernelRun0_B]
  rw [View.canon_cons_unit_lit' _ _ _ (by decide), readAt_whole4, readAt_whole4, readAt_whole7, readAt_whole8]
  exact congrArg (fun z => k0_pay2 x6 z x7 x3 x4) (readAt_whole3 arg3 harg3 x2 _)

variable (m : (ℓ : Loc nD τ sig) → Buf (Elt F) ℓ)

/-- The scale every point leaves. -/
theorem scale0_eq (c : Dev nD) : scale0 m c = scaleV (iblk m c 0 t0) (iblk m c 1 t0) := by
  unfold scale0; exact out0_A_7_eq ..

/-- The codes every point leaves. -/
theorem codes0_eq (c : Dev nD) : codes0 m c = codesV (iblk m c 0 t0) (iblk m c 1 t0) := by
  unfold codes0; exact out0_A_6_eq ..

/-- The block of `y` every point leaves. -/
theorem yblk0_eq (c : Dev nD) (t : Fin cfg0.N) :
    yblk0 m c t = k0_pay2 (codes0 m c) (iblk m c 2 t) (scale0 m c) (iblk m c 3 t) (iblk m c 4 t) := by
  unfold yblk0
  split
  · next h =>
    obtain rfl : t = t0 := eq_t0 t h
    rw [scale0_eq, codes0_eq]; exact out0_A_5_eq ..
  · exact out0_B_5_eq ..

end Cert.KernelIdeal.Gen
-- ==== Proof.KOut.lean ====
/- The kernel's three result arrays after the run. -/
module

public import proofs.«01_k».proof.Proof.KVal
public import Idealize.ShloMosaic.Lib.Pipeline.ValueKit
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The dequantized product: codes times weights, times the row scale and the column scale, plus the bias. -/
def yArr (C : FVec Ideal S128x8192 .fp8e4m3) (S : FVec Ideal S128x1 .f32) (W : FVec Ideal S8192x32768 .fp8e4m3)
    (ws b : FVec Ideal S32768 .f32) : FVec Ideal S128x32768 .f32 :=
  fun j => (∑ k : Fin 8192, C (ix2 (j 0) k) * W (ix2 k (j 1))) * S (ix2 (j 0) 0) * ws (ix1 (j 1)) + b (ix1 (j 1))

variable (m : (ℓ : Loc nD τ sig) → Buf (Elt Ideal) ℓ)

/-- The activations as the kernel stages them: the argument without its middle axis. -/
abbrev xArr (c : Dev nD) : FVec Ideal S128x8192 .f32 :=
  shapeCast S128x8192 (m ((c : Thread nD τ).loc main_arg0) : FVec Ideal S128x1x8192 .f32) shapeCasts_S128x1x8192_S128x8192

/-- The windows' index maps at every grid point. -/
theorem idx : ∀ t : Fin cfg0.N, win0_0.index t = ![0, 0] ∧ win0_1.index t = ![0, 0] ∧ win0_2.index t = ![0, t.val]
    ∧ win0_3.index t = ![0, t.val] ∧ win0_4.index t = ![0, t.val] ∧ win0_5.index t = ![0, t.val]
    ∧ win0_6.index t = ![0, 0] ∧ win0_7.index t = ![0, 0] ∧ t.val < 32 :=
  (by decide +kernel : ∀ t : Fin grid0.N, _)

/-- The first window's block is all the activations. -/
theorem iblk_0 (c : Dev nD) (t : Fin cfg0.N) : iblk m c 0 t = xArr m c := by
  funext y
  blk_simp [iblk]
  entry_read
  refine congrArg (xArr m c) ?_
  blk_ext [idx t]

/-- The second window's block is the whole rotation matrix. -/
theorem iblk_1 (c : Dev nD) (t : Fin cfg0.N) : iblk m c 1 t = m ((c : Thread nD τ).loc main_arg1) := by
  blk_ext! [iblk, V, idx t]

/-- The codes of the first grid point. -/
theorem codes0_arr (c : Dev nD) : codes0 m c = codesV (xArr m c) (m ((c : Thread nD τ).loc main_arg1)) := by
  rw [codes0_eq, iblk_0, iblk_1]

/-- The scales of the first grid point. -/
theorem scale0_arr (c : Dev nD) : scale0 m c = scaleV (xArr m c) (m ((c : Thread nD τ).loc main_arg1)) := by
  rw [scale0_eq, iblk_0, iblk_1]

/-- The last grid point. -/
def tLast : Fin cfg0.N := ⟨31, by rw [show cfg0.N = 32 from N_0]; decide⟩

/-- The array of codes after the run. -/
theorem final6 (c : Dev nD) : (dats m 0 c).arrAt 6 (cfgs 0).N = codesV (xArr m c) (m ((c : Thread nD τ).loc main_arg1)) := by
  rw [← codes0_arr]
  refine (dats m 0 c).arrAt_eq_of_after_last 6 tLast (by decide +kernel) _ fun j => ?_
  blk_simp
  rw [after0_6]

/-- The array of scales after the run. -/
theorem final7 (c : Dev nD) : (dats m 0 c).arrAt 7 (cfgs 0).N = scaleV (xArr m c) (m ((c : Thread nD τ).loc main_arg1)) := by
  rw [← scale0_arr]
  refine (dats m 0 c).arrAt_eq_of_after_last 7 tLast (by decide +kernel) _ fun j => ?_
  blk_simp
  rw [after0_7]

/-- A block of `y` is the product's own block. -/
theorem point5 (c : Dev nD) (t : Fin cfg0.N) (C : FVec Ideal S128x8192 .fp8e4m3) (S : FVec Ideal S128x1 .f32) (y) :
    k0_pay2 C (iblk m c 2 t) S (iblk m c 3 t) (iblk m c 4 t) y
      = yArr C S (m ((c : Thread nD τ).loc main_arg2)) (m ((c : Thread nD τ).loc main_arg3)) (m ((c : Thread nD τ).loc main_arg4))
          (((cfg0.win 5).blk t).view.emb y) := by
  pointwise [k0_pay2, yArr]
  blk_point [iblk, V, idx t]

/-- The array of `y` after the run. -/
theorem final5 (c : Dev nD) : (dats m 0 c).arrAt 5 (cfgs 0).N
    = yArr (codesV (xArr m c) (m ((c : Thread nD τ).loc main_arg1))) (scaleV (xArr m c) (m ((c : Thread nD τ).loc main_arg1)))
        (m ((c : Thread nD τ).loc main_arg2)) (m ((c : Thread nD τ).loc main_arg3)) (m ((c : Thread nD τ).loc main_arg4)) := by
  rw [← codes0_arr, ← scale0_arr]
  refine (dats m 0 c).arrAt_eq_of_covers 5 _ (by decide +kernel) fun t _ y => ?_
  blk_simp
  rw [after0_5, yblk0_eq]
  exact point5 m c t _ _ y

end Cert.KernelIdeal.Gen
-- ==== Proof.RHost.lean ====
/- The reference's host lines in closed form. -/
module

public import proofs.«01_k».proof.Proof.Gen.ReferenceIdeal.Frame
public import proofs.«01_k».proof.Proof.KOut
public import Idealize.ShloMosaic.Lib.Pipeline.ValueKit
public import Idealize.ShloMosaic.Lib.Claim
public import Idealize.ShloMosaic.Lib.StableHlo.RunRead
public import Idealize.ShloMosaic.Lib.Pointwise

@[expose] public section

set_option maxRecDepth 200000

noncomputable section

namespace Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The reference's host lines, as functions -/

/-- A scalar constant at every row. -/
abbrev cst1 (b : BitVec 32) : FVec Ideal S128x1 .f32 := broadcastInDim S128x1 ![] bcast_S_S128x1 (constant (F := Ideal) S_ .f32 b)

/-- The rotated activations: every group of 128 features times the matrix. -/
def rXr (x : FVec Ideal S128x1x8192 .f32) (h : FVec Ideal S128x128 .f32) : FVec Ideal S128x8192 .f32 :=
  shapeCast S128x8192 (Host.dotGeneral dot_S128x64x128_S128x128_S128x64x128_2_0_01_1_n_n (some .fp32)
    (shapeCast S128x64x128 x shapeCasts_S128x1x8192_S128x64x128) h) shapeCasts_S128x64x128_S128x8192

/-- The largest absolute value of each row. -/
def rA (xr : FVec Ideal S128x8192 .f32) : FVec Ideal S128x1 .f32 :=
  broadcastInDim S128x1 ![0] bcast_S128_S128x1_0
    (Host.reduce FloatOps.maximumf (Host.absf xr) (constant (F := Ideal) S_ .f32 0xFF800000#32) reducesTo_S128x8192_S128_d1 h_S_)

/-- The exponent of each row. -/
def rE (a : FVec Ideal S128x1 .f32) : FVec Ideal S128x1 .f32 :=
  select (cmpf .oeq a (cst1 0x00000000#32)) (cst1 0x00000000#32)
    (select (ori (cmpf .olt (mulf a (cst1 0x3B124925#32)) (cst1 0x00800000#32)) (cmpf .oeq (mulf a (cst1 0x3B124925#32)) (cst1 0x7F800000#32)))
      (cst1 0x00000000#32)
      (addf (Host.floor (Host.divf (Host.log (mulf a (cst1 0x3B124925#32))) (Host.log (cst1 0x40000000#32)))) (cst1 0x3F800000#32)))

/-- Two to an exponent, in the range of the format. -/
def rP (e : FVec Ideal S128x1 .f32) : FVec Ideal S128x1 .f32 :=
  select (cmpf .olt e (cst1 0xC2FC0000#32)) (cst1 0x00000000#32)
    (select (cmpf .ogt e (cst1 0x42FE0000#32)) (cst1 0x7F800000#32) (Host.powf (cst1 0x40000000#32) e))

/-- The scaled activations, clipped. -/
def rC (xr : FVec Ideal S128x8192 .f32) (inv : FVec Ideal S128x1 .f32) : FVec Ideal S128x8192 .f32 :=
  minimumf (broadcastInDim S128x8192 ![] bcast_S_S128x8192 (constant (F := Ideal) S_ .f32 0x43E00000#32))
    (maximumf (broadcastInDim S128x8192 ![] bcast_S_S128x8192 (constant (F := Ideal) S_ .f32 0xC3E00000#32))
      (mulf xr (broadcastInDim S128x8192 ![0, 1] bcast_S128x1_S128x8192_0_1 inv)))

variable (m : (ℓ : Loc nD τ sig) → Buf (Elt Ideal) ℓ)

/-- The row exponents that the host lines compute. -/
abbrev rExp (c : Dev nD) : FVec Ideal S128x1 .f32 :=
  rE (rA (rXr (m ((c : Thread nD τ).loc main_arg0)) (m ((c : Thread nD τ).loc main_arg1))))

/-- The contents of the device's buffers. -/
abbrev Wv := Valuation τ sig (Elt Ideal)

/-- The rotated activations after the first host lines. -/
theorem host_v2 (W : Wv) : StableHlo.after hostOps0 W (Proc.devRef .tc main_v2)
    = rXr (W (Proc.devRef .tc main_arg0)) (W (Proc.devRef .tc main_arg1)) := by
  after_reads_simp
  rfl

/-- The row maxima after the first host lines. -/
theorem host_v5 (W : Wv) : StableHlo.after hostOps0 W (Proc.devRef .tc main_v5)
    = rA (rXr (W (Proc.devRef .tc main_arg0)) (W (Proc.devRef .tc main_arg1))) := by
  after_reads_simp
  rfl

/-- The rescaled row maximum. -/
abbrev rV (a : FVec Ideal S128x1 .f32) : FVec Ideal S128x1 .f32 := mulf a (cst1 0x3B124925#32)

/-- The exponent before the special cases. -/
abbrev rL (a : FVec Ideal S128x1 .f32) : FVec Ideal S128x1 .f32 :=
  addf (Host.floor (Host.divf (Host.log (rV a)) (Host.log (cst1 0x40000000#32)))) (cst1 0x3F800000#32)

/-- The special cases. -/
abbrev rS (a : FVec Ideal S128x1 .f32) : IVec S128x1 1 :=
  ori (cmpf .olt (rV a) (cst1 0x00800000#32)) (cmpf .oeq (rV a) (cst1 0x7F800000#32))

/-- The exponents before the special cases, after the first host lines. -/
theorem host_v14 (W : Wv) : StableHlo.after hostOps0 W (Proc.devRef .tc main_v14)
    = rL (rA (rXr (W (Proc.devRef .tc main_arg0)) (W (Proc.devRef .tc main_arg1)))) := by
  after_reads_simp
  rfl

/-- The mark of the special cases, after the first host lines. -/
theorem host_v19 (W : Wv) : StableHlo.after hostOps0 W (Proc.devRef .tc main_v19)
    = rS (rA (rXr (W (Proc.devRef .tc main_arg0)) (W (Proc.devRef .tc main_arg1)))) := by
  after_reads_simp
  rfl

/-- The row exponents after the host lines that compute them. -/
theorem host_v23 (W : Wv) : StableHlo.after (List.flatten [hostOps0_1, hostOps0_2, hostOps0_3])
      (StableHlo.after hostOps0 W) (Proc.devRef .tc main_v23)
    = rE (rA (rXr (W (Proc.devRef .tc main_arg0)) (W (Proc.devRef .tc main_arg1)))) := by
  have h5 := host_v5 W
  have h14 := host_v14 W
  have h19 := host_v19 W
  have h0 : StableHlo.after hostOps0 W (Proc.devRef .tc main_cst_5) = constant (F := Ideal) S_ .f32 0#32 := by
    after_reads_simp
  generalize StableHlo.after hostOps0 W = W' at *
  after_reads_simp
  simp -implicitDefEqProofs only [StableHlo.TRef.ofBuf, StableHlo.TRef.toBuf, cast_cast, cast_eq, id_eq]
  rw [h5, h14, h19, h0]
  rfl

/-- Those host lines leave the rotated activations in place. -/
theorem host_v2' (W : Wv) : StableHlo.after (List.flatten [hostOps0_1, hostOps0_2, hostOps0_3])
      (StableHlo.after hostOps0 W) (Proc.devRef .tc main_v2)
    = rXr (W (Proc.devRef .tc main_arg0)) (W (Proc.devRef .tc main_arg1)) := by
  have h2 := host_v2 W
  generalize StableHlo.after hostOps0 W = W' at *
  after_reads_simp
  exact h2

/-- The host lines after the exponent. -/
abbrev tailOps : List (HloOp τ sig (Elt Ideal)) :=
  List.flatten [hostOps0_4, hostOps0_5, hostOps0_6, hostOps0_7, hostOps0_8, hostOps0_9, hostOps0_10, hostOps0_11, hostOps0_12, hostOps0_13, hostOps0_14]

/-- The scales after the remaining host lines, from the exponents. -/
theorem tail_v31 (W : Wv) : StableHlo.after tailOps W (Proc.devRef .tc main_v31)
    = rP (W (Proc.devRef .tc main_v23)) := by
  after_reads_simp
  simp -implicitDefEqProofs only [StableHlo.TRef.ofBuf, StableHlo.TRef.toBuf, cast_cast, cast_eq, id_eq]
  rfl

/-- The clipped activations after the remaining host lines, from the rotated ones and the exponents. -/
theorem tail_v43 (W : Wv) : StableHlo.after tailOps W (Proc.devRef .tc main_v43)
    = rC (W (Proc.devRef .tc main_v2)) (rP (Host.negf (F := Ideal) (W (Proc.devRef .tc main_v23)))) := by
  after_reads_simp
  simp -implicitDefEqProofs only [StableHlo.TRef.ofBuf, StableHlo.TRef.toBuf, cast_cast, cast_eq, id_eq]
  rfl

/-- The host lines in three stretches. -/
theorem V_split (c : Dev nD) (b : Ref sig .tc) : V m c b
    = StableHlo.after tailOps (StableHlo.after (List.flatten [hostOps0_1, hostOps0_2, hostOps0_3])
      (StableHlo.after hostOps0 (fun b => m (c, b)))) (Proc.devRef .tc b) := by
  rfl

/-- The third result, the scales, as the pallas_call finds it. -/
theorem V_v31 (c : Dev nD) : V m c main_v31 = rP (rExp m c) := by
  rw [V_split, tail_v31, host_v23]

/-- The clipped activations as the pallas_call finds them. -/
theorem V_v43 (c : Dev nD) : V m c main_v43
    = rC (rXr (m ((c : Thread nD τ).loc main_arg0)) (m ((c : Thread nD τ).loc main_arg1))) (rP (Host.negf (rExp m c))) := by
  rw [V_split, tail_v43, host_v23, host_v2']

/-- The weights' scale as the pallas_call finds it. -/
theorem V_v44 (c : Dev nD) : V m c main_v44 = shapeCast S1x32768 (m ((c : Thread nD τ).loc main_arg3)) shapeCasts_S32768_S1x32768 := by
  entry_read
  rfl

/-- The bias as the pallas_call finds it. -/
theorem V_v45 (c : Dev nD) : V m c main_v45 = shapeCast S1x32768 (m ((c : Thread nD τ).loc main_arg4)) shapeCasts_S32768_S1x32768 := by
  entry_read
  rfl

end Cert.ReferenceIdeal.Gen
-- ==== Proof.ROut.lean ====
/- The reference's results in closed form. -/
module

public import proofs.«01_k».proof.Proof.RHost
public import Idealize.ShloMosaic.Lib.WholeRead

@[expose] public section

set_option maxRecDepth 200000

noncomputable section

namespace Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- A load of the whole of a block reads it. -/
theorem readAt_whole0 (arg : Memref sig .tc .vmem S128x8192 .f32) (harg : arg.IsWhole) (x : Vec Ideal S128x8192 .f32)
    (inb : ∀ a, (![0, 0] : Fin 2 → ℕ) a + S128x8192.size a ≤ S128x8192.size a) :
    View.readAt (Elt Ideal) arg.view (Rect.unit (s := S128x8192) ![0, 0] (no_index S128x8192.size) inb).toLoadRect (harg.unread x) = x := by
  funext j
  rw [harg.readAt_unread x]
  refine congrArg x (funext fun a => ?_)
  match a with
  | ⟨0, _⟩ => exact Fin.ext (by simp)
  | ⟨1, _⟩ => exact Fin.ext (by simp)

/-- A load of the whole of a block reads it. -/
theorem readAt_whole1 (arg : Memref sig .tc .vmem S8192x32768 .fp8e4m3) (harg : arg.IsWhole) (x : Vec Ideal S8192x32768 .fp8e4m3)
    (inb : ∀ a, (![0, 0] : Fin 2 → ℕ) a + S8192x32768.size a ≤ S8192x32768.size a) :
    View.readAt (Elt Ideal) arg.view (Rect.unit (s := S8192x32768) ![0, 0] (no_index S8192x32768.size) inb).toLoadRect (harg.unread x) = x := by
  funext j
  rw [harg.readAt_unread x]
  refine congrArg x (funext fun a => ?_)
  match a with
  | ⟨0, _⟩ => exact Fin.ext (by simp)
  | ⟨1, _⟩ => exact Fin.ext (by simp)

/-- A load of the whole of a block reads it. -/
theorem readAt_whole2 (arg : Memref sig .tc .vmem S128x1 .f32) (harg : arg.IsWhole) (x : Vec Ideal S128x1 .f32)
    (inb : ∀ a, (![0, 0] : Fin 2 → ℕ) a + S128x1.size a ≤ S128x1.size a) :
    View.readAt (Elt Ideal) arg.view (Rect.unit (s := S128x1) ![0, 0] (no_index S128x1.size) inb).toLoadRect (harg.unread x) = x := by
  funext j
  rw [harg.readAt_unread x]
  refine congrArg x (funext fun a => ?_)
  match a with
  | ⟨0, _⟩ => exact Fin.ext (by simp)
  | ⟨1, _⟩ => exact Fin.ext (by simp)

/-- A load of the whole of a block reads it. -/
theorem readAt_whole3 (arg : Memref sig .tc .vmem S1x32768 .f32) (harg : arg.IsWhole) (x : Vec Ideal S1x32768 .f32)
    (inb : ∀ a, (![0, 0] : Fin 2 → ℕ) a + S1x32768.size a ≤ S1x32768.size a) :
    View.readAt (Elt Ideal) arg.view (Rect.unit (s := S1x32768) ![0, 0] (no_index S1x32768.size) inb).toLoadRect (harg.unread x) = x := by
  funext j
  rw [harg.readAt_unread x]
  refine congrArg x (funext fun a => ?_)
  match a with
  | ⟨0, _⟩ => exact Fin.ext (by simp)
  | ⟨1, _⟩ => exact Fin.ext (by simp)

/-- The pieces of the codes are one store of the payload. -/
theorem H6_eq (c : Dev nD) (arg0 : Memref sig .tc .vmem S128x8192 .f32) (harg0 : arg0.IsWhole) (x0 : Vec Ideal S128x8192 .f32) :
    View.canon (kernelRun0_A.sl.H6_1 c arg0 harg0 x0) = k0_pay1 x0 := by
  unfold kernelRun0_A.sl.H6_1
  rw [View.canon_cons_unit_lit' _ _ _ (by decide)]
  exact congrArg k0_pay1 (readAt_whole0 arg0 harg0 x0 _)

/-- What the body leaves in the buffer of the codes. -/
theorem out0_A_6_eq (c : Dev nD) (arg0 : Memref sig .tc .vmem S128x8192 .f32) (harg0 : arg0.IsWhole) (arg1 : Memref sig .tc .vmem S8192x32768 .fp8e4m3) (harg1 : arg1.IsWhole) (arg2 : Memref sig .tc .vmem S128x1 .f32) (harg2 : arg2.IsWhole) (arg3 : Memref sig .tc .vmem S1x32768 .f32) (harg3 : arg3.IsWhole) (arg4 : Memref sig .tc .vmem S1x32768 .f32) (harg4 : arg4.IsWhole) (arg5 : Memref sig .tc .vmem S128x32768 .f32) (harg5 : arg5.IsWhole) (arg6 : Memref sig .tc .vmem S128x8192 .fp8e4m3) (harg6 : arg6.IsWhole) (x0 : Vec Ideal S128x8192 .f32) (x1 : Vec Ideal S8192x32768 .fp8e4m3) (x2 : Vec Ideal S128x1 .f32) (x3 : Vec Ideal S1x32768 .f32) (x4 : Vec Ideal S1x32768 .f32) :
    out0_A_6 c arg0 harg0 arg1 harg1 arg2 harg2 arg3 harg3 arg4 harg4 arg5 harg5 arg6 harg6 x0 x1 x2 x3 x4 = k0_pay1 x0 := by
  unfold out0_A_6
  rw [View.read_writes_junk_eq_canon]
  exact H6_eq c arg0 harg0 x0

/-- What the body leaves in the buffer of `y`. -/
theorem out0_A_5_eq (c : Dev nD) (arg0 : Memref sig .tc .vmem S128x8192 .f32) (harg0 : arg0.IsWhole) (arg1 : Memref sig .tc .vmem S8192x32768 .fp8e4m3) (harg1 : arg1.IsWhole) (arg2 : Memref sig .tc .vmem S128x1 .f32) (harg2 : arg2.IsWhole) (arg3 : Memref sig .tc .vmem S1x32768 .f32) (harg3 : arg3.IsWhole) (arg4 : Memref sig .tc .vmem S1x32768 .f32) (harg4 : arg4.IsWhole) (arg5 : Memref sig .tc .vmem S128x32768 .f32) (harg5 : arg5.IsWhole) (arg6 : Memref sig .tc .vmem S128x8192 .fp8e4m3) (harg6 : arg6.IsWhole) (x0 : Vec Ideal S128x8192 .f32) (x1 : Vec Ideal S8192x32768 .fp8e4m3) (x2 : Vec Ideal S128x1 .f32) (x3 : Vec Ideal S1x32768 .f32) (x4 : Vec Ideal S1x32768 .f32) :
    out0_A_5 c arg0 harg0 arg1 harg1 arg2 harg2 arg3 harg3 arg4 harg4 arg5 harg5 arg6 harg6 x0 x1 x2 x3 x4 = k0_pay2 (k0_pay1 x0) x1 x2 x3 x4 := by
  have h4 : kernelRun0_A.sl.v4 c arg0 harg0 arg6 x0 = k0_pay1 x0 := by
    unfold kernelRun0_A.sl.v4
    rw [View.readCov_eq_canon', H6_eq]
    refine funext fun j => congrArg _ (funext fun a => ?_)
    match a with
    | ⟨0, _⟩ => exact Fin.ext (by simp)
    | ⟨1, _⟩ => exact Fin.ext (by simp)
  unfold out0_A_5
  rw [View.read_writes_junk_eq_canon]
  dsimp only [kernelRun0_A]
  rw [View.canon_cons_unit_lit' _ _ _ (by decide), h4]
  have e1 := readAt_whole1 arg1 harg1 x1 inb_S8192x32768_S8192x32768_0_0
  have e2 := readAt_whole2 arg2 harg2 x2 inb_S128x1_S128x1_0_0
  have e3 := readAt_whole3 arg3 harg3 x3 inb_S1x32768_S1x32768_0_0
  have e4 := readAt_whole3 arg4 harg4 x4 inb_S1x32768_S1x32768_0_0
  exact congr (congr (congr (congrArg (k0_pay2 (k0_pay1 x0)) e1) e2) e3) e4

/-- The windows' index maps at the one grid point. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

/-- The first window is the whole array of clipped activations. -/
theorem iblk_0 (c : Dev nD) (t : Fin cfg0.N) : iblk m c 0 t = V m c main_v43 := by
  unfold iblk
  rw [show V m c (Pipeline.arrRef spec0 0) = V m c main_v43 from rfl]
  generalize V m c main_v43 = Z
  blk_ext! [idx t]

/-- The second window is the whole array of weights. -/
theorem iblk_1 (c : Dev nD) (t : Fin cfg0.N) : iblk m c 1 t = m ((c : Thread nD τ).loc main_arg2) := by
  rw [← V_main_arg2 m c]
  unfold iblk
  rw [show V m c (Pipeline.arrRef spec0 1) = V m c main_arg2 from rfl]
  generalize V m c main_arg2 = Z
  blk_ext! [idx t]

/-- The third window is the whole column of scales. -/
theorem iblk_2 (c : Dev nD) (t : Fin cfg0.N) : iblk m c 2 t = V m c main_v31 := by
  unfold iblk
  rw [show V m c (Pipeline.arrRef spec0 2) = V m c main_v31 from rfl]
  generalize V m c main_v31 = Z
  blk_ext! [idx t]

/-- The fourth window is the whole row of the weights' scales. -/
theorem iblk_3 (c : Dev nD) (t : Fin cfg0.N) : iblk m c 3 t = V m c main_v44 := by
  unfold iblk
  rw [show V m c (Pipeline.arrRef spec0 3) = V m c main_v44 from rfl]
  generalize V m c main_v44 = Z
  blk_ext! [idx t]

/-- The fifth window is the whole row of the bias. -/
theorem iblk_4 (c : Dev nD) (t : Fin cfg0.N) : iblk m c 4 t = V m c main_v45 := by
  unfold iblk
  rw [show V m c (Pipeline.arrRef spec0 4) = V m c main_v45 from rfl]
  generalize V m c main_v45 = Z
  blk_ext! [idx t]

/-- The one grid point. -/
def tOne : Fin cfg0.N := ⟨0, by decide⟩

/-- The array of codes after the run. -/
theorem final6 (c : Dev nD) : (dats m 0 c).arrAt 6 (cfgs 0).N = k0_pay1 (V m c main_v43) := by
  rw [← iblk_0 m c tOne]
  generalize hZ : k0_pay1 (iblk m c 0 tOne) = Z
  refine (dats m 0 c).arrAt_eq_of_after_last 6 tOne (by decide +kernel) _ fun j => ?_
  blk_simp
  rw [after0_6]
  unfold outsAt0
  dsimp only
  rw [out0_A_6_eq, hZ]

/-- The array of `y` after the run. -/
theorem final5 (c : Dev nD) : (dats m 0 c).arrAt 5 (cfgs 0).N
    = k0_pay2 (k0_pay1 (V m c main_v43)) (m ((c : Thread nD τ).loc main_arg2)) (V m c main_v31) (V m c main_v44) (V m c main_v45) := by
  rw [← iblk_0 m c tOne, ← iblk_1 m c tOne, ← iblk_2 m c tOne, ← iblk_3 m c tOne, ← iblk_4 m c tOne]
  generalize hZ : k0_pay2 (k0_pay1 (iblk m c 0 tOne)) (iblk m c 1 tOne) (iblk m c 2 tOne) (iblk m c 3 tOne) (iblk m c 4 tOne) = Z
  refine (dats m 0 c).arrAt_eq_of_after_last 5 tOne (by decide +kernel) _ fun j => ?_
  blk_simp
  rw [after0_5]
  unfold outsAt0
  dsimp only
  rw [out0_A_5_eq, hZ]

end Cert.ReferenceIdeal.Gen
-- ==== Proof.PowTwo.lean ====
/- Powers of two by bits and by exponent: the row exponent counted by comparisons is the floor of a logarithm. -/
module

public import proofs.«01_k».proof.Proof.KVal
public import Idealize.ShloMosaic.Lib.Pointwise
public import Mathlib.Analysis.SpecialFunctions.Log.Basic
public import Mathlib.Data.Fintype.Fin

@[expose] public section

set_option maxRecDepth 16384

noncomputable section

namespace Cert.PowTwo

open Idealize.ShloMosaic

/-! ## The formulas at one row -/

/-- The biased exponent, counted: how many of the powers of two with biased exponents 1 … 255 are at most `v`. -/
def count (v : EReal) : BitVec 32 :=
  Finset.fold IntOp.addi 0#32 (fun x : Fin 255 => BitVec.setWidth 32 (BitVec.ofBool (decide
    (Ideal.ofBits .f32 (IntOp.shli ArithUnit.vector (IntOp.addi (BitVec.ofNat 32 ↑x) 1#32) 23#32) ≤ v)))) Finset.univ

/-- The exponent the kernel computes from the row maximum. -/
def kExp (a : EReal) : BitVec 32 :=
  if a = 0 then 0#32 else Scalar.select (IntOp.ori (IntOp.cmpi .eq (count (a * Ideal.ofBits .f32 991054117#32)) 0#32)
    (IntOp.cmpi .eq (count (a * Ideal.ofBits .f32 991054117#32)) 255#32)) 0#32
    (IntOp.subi (count (a * Ideal.ofBits .f32 991054117#32)) 126#32)

/-- The power of two the kernel assembles from a biased exponent. -/
def kPow (b : BitVec 32) : EReal :=
  Ideal.ofBits .f32 (Scalar.select (IntOp.cmpi .sle b 0#32) 0#32
    (Scalar.select (IntOp.cmpi .sge b 255#32) 2139095040#32 (IntOp.shli ArithUnit.vector b 23#32)))

/-- The exponent the reference computes from the row maximum. -/
def rExp (a : EReal) : EReal :=
  if a = 0 then 0 else Scalar.select
    (IntOp.ori (BitVec.ofBool (decide (a * Ideal.ofBits .f32 991054117#32 < Ideal.ofBits .f32 8388608#32)))
      (BitVec.ofBool (decide (a * Ideal.ofBits .f32 991054117#32 = Ideal.ofBits .f32 2139095040#32))))
    0 (Ideal.liftRound Int.floor (Ideal.div (Ideal.log (a * Ideal.ofBits .f32 991054117#32)) (Ideal.log (Ideal.ofBits .f32 1073741824#32))) + 1)

/-- The power of two the reference computes from an exponent. -/
def rPow (e : EReal) : EReal :=
  if e < Ideal.ofBits .f32 3271294976#32 then 0
  else if Ideal.ofBits .f32 1123942400#32 < e then Ideal.ofBits .f32 2139095040#32
  else Ideal.pow (Ideal.ofBits .f32 1073741824#32) e

/-! ## The constants -/

/-- The constant infinity. -/
theorem c_top : Ideal.ofBits .f32 2139095040#32 = ⊤ := by simp [Ideal.ofBits, Ideal.ieee]
/-- The constant two. -/
theorem c_two : Ideal.ofBits .f32 1073741824#32 = ((2 : ℝ) : EReal) := by
  simp [Ideal.ofBits, Ideal.ieee, -EReal.coe_mul]; norm_num
/-- The lowest exponent of a normal number. -/
theorem c_lo : Ideal.ofBits .f32 3271294976#32 = ((-126 : ℝ) : EReal) := by
  simp [Ideal.ofBits, Ideal.ieee, -EReal.coe_mul]; norm_num
/-- The highest exponent of a number. -/
theorem c_hi : Ideal.ofBits .f32 1123942400#32 = ((127 : ℝ) : EReal) := by
  simp [Ideal.ofBits, Ideal.ieee, -EReal.coe_mul]; norm_num
/-- The constant zero. -/
theorem c_zero : Ideal.ofBits .f32 0#32 = 0 := by simp [Ideal.ofBits, Ideal.ieee]

/-- The exponent field and the others of a word holding a biased exponent alone. -/
theorem fields : ∀ b : Fin 256, (BitVec.ofNat 32 b <<< 23).extractLsb' 31 1 = 0#1
    ∧ ((BitVec.ofNat 32 b <<< 23).extractLsb' 23 8).toNat = b ∧ ((BitVec.ofNat 32 b <<< 23).extractLsb' 0 23).toNat = 0 := by
  decide +kernel

/-- A word holding a biased exponent alone is that power of two. -/
theorem bits_pow (b : ℕ) (h1 : 1 ≤ b) (h2 : b ≤ 254) :
    Ideal.ofBits .f32 (BitVec.ofNat 32 b <<< 23) = (((2 : ℝ) ^ ((b : ℤ) - 127) : ℝ) : EReal) := by
  obtain ⟨f1, f2, f3⟩ := fields ⟨b, by omega⟩
  simp only at f1 f2 f3
  show Ideal.ieee 8 23 (BitVec.ofNat 32 b <<< 23) = _
  unfold Ideal.ieee
  simp only [show (8 + 23 : ℕ) = 31 from rfl, f1, f2, f3]
  rw [if_neg (by norm_num; omega), if_neg (by omega)]
  refine EReal.coe_eq_coe_iff.2 ?_
  have e : (b : ℤ) - 127 = 23 + ((b : ℤ) - 127 - 23) := by ring
  rw [e, zpow_add₀ (by norm_num)]
  norm_num

/-- The smallest normal number. -/
theorem c_min : Ideal.ofBits .f32 8388608#32 = (((2 : ℝ) ^ (-126 : ℤ) : ℝ) : EReal) := by
  have := bits_pow 1 (by norm_num) (by norm_num)
  simpa using this

/-- The factor of the row maximum is a positive real. -/
theorem c_scale : ∃ r : ℝ, 0 < r ∧ Ideal.ofBits .f32 991054117#32 = (r : EReal) := by
  refine ⟨_, ?_, by simp [Ideal.ofBits, Ideal.ieee, -EReal.coe_mul]; rfl⟩
  positivity

/-- The kernel's shift of a small word. -/
theorem shl (b : BitVec 32) : IntOp.shli ArithUnit.vector b 23#32 = b <<< 23 := by
  simp [IntOp.shli]

/-! ## The count -/

/-- A sum of zeros and ones is the number of the ones. -/
theorem fold_card (s : Finset (Fin 255)) (p : Fin 255 → Prop) [DecidablePred p] :
    Finset.fold IntOp.addi 0#32 (fun x => BitVec.setWidth 32 (BitVec.ofBool (decide (p x)))) s
      = BitVec.ofNat 32 (s.filter p).card := by
  induction s using Finset.induction_on with
  | empty => rfl
  | insert x s hx ih =>
    rw [Finset.fold_insert hx, ih, Finset.filter_insert]
    by_cases h : p x
    · rw [if_pos h, Finset.card_insert_of_notMem (by simp [hx])]
      simp only [h, decide_true, IntOp.addi]
      rw [BitVec.ofNat_add, BitVec.add_comm]
      rfl
    · rw [if_neg h]
      simp only [h, decide_false, IntOp.addi]
      simp

/-- When exactly the first `M` thresholds are at most `v`, the count is `M`. -/
theorem count_eq (v : EReal) (M : ℕ) (hM : M ≤ 255)
    (h : ∀ k : Fin 255, Ideal.ofBits .f32 (BitVec.ofNat 32 (k.val + 1) <<< 23) ≤ v ↔ k.val < M) : count v = BitVec.ofNat 32 M := by
  have e : count v = Finset.fold IntOp.addi 0#32 (fun x : Fin 255 => BitVec.setWidth 32 (BitVec.ofBool (decide (x.val < M)))) Finset.univ := by
    unfold count
    congr 1
    funext x
    rw [shl]
    have hx : IntOp.addi (BitVec.ofNat 32 x.val) 1#32 = BitVec.ofNat 32 (x.val + 1) := by
      rw [BitVec.ofNat_add]; rfl
    rw [hx]
    simp only [h x]
  rw [e, fold_card _ (fun x : Fin 255 => x.val < M)]
  congr 1
  have := Fin.card_filter_val_lt (n := 255) (m := M)
  rw [this]; omega

/-- The last threshold is infinity. -/
theorem thr_last (k : Fin 255) (h : k.val = 254) : Ideal.ofBits .f32 (BitVec.ofNat 32 (k.val + 1) <<< 23) = ⊤ := by
  rw [h]; exact c_top

/-- The floor of the binary logarithm. -/
def lg (v : ℝ) : ℤ := ⌊Real.log v / Real.log 2⌋

/-- A power of two is at most `v` when its exponent is at most the floor of the binary logarithm. -/
theorem zpow_le_iff (x : ℤ) (v : ℝ) (hv : 0 < v) : (2 : ℝ) ^ x ≤ v ↔ x ≤ lg v := by
  have l2 : 0 < Real.log 2 := Real.log_pos (by norm_num)
  unfold lg
  rw [Int.le_floor, le_div_iff₀ l2, ← Real.log_zpow, Real.log_le_log_iff (by positivity) hv]

/-- At infinity every threshold counts. -/
theorem count_top : count ⊤ = 255#32 := count_eq ⊤ 255 le_rfl fun k => by simp [k.isLt]

/-- At a positive real the count is its binary logarithm's floor, biased and cut to the range. -/
theorem count_real (v : ℝ) (hv : 0 < v) : count (v : EReal) = BitVec.ofNat 32 (min (lg v + 127) 254).toNat := by
  refine count_eq _ _ (by omega) fun k => ?_
  by_cases h : k.val = 254
  · rw [thr_last k h]
    simp only [top_le_iff, EReal.coe_ne_top, false_iff]
    omega
  · have hk := k.isLt
    rw [bits_pow _ (by omega) (by omega), EReal.coe_le_coe_iff]
    rw [zpow_le_iff _ v hv]
    push_cast
    omega

/-! ## The powers of two agree -/

/-- The kernel's comparison with zero, decided on the signed value. -/
theorem sle_zero (b : BitVec 32) : IntOp.cmpi .sle b 0#32 = BitVec.ofBool (decide (b.toInt ≤ 0)) := rfl
/-- The kernel's comparison with 255, decided on the signed value. -/
theorem sge_255 (b : BitVec 32) : IntOp.cmpi .sge b 255#32 = BitVec.ofBool (decide (255 ≤ b.toInt)) := rfl

/-- At a biased exponent of zero or less the kernel makes zero. -/
theorem kPow_nonpos (b : BitVec 32) (h : b.toInt ≤ 0) : kPow b = 0 := by
  unfold kPow
  have : IntOp.cmpi .sle b 0#32 = 1#1 := by
    rw [sle_zero, decide_eq_true h]; rfl
  simp only [this, Scalar.select, if_true]
  exact c_zero

/-- At a biased exponent of 255 or more the kernel makes infinity. -/
theorem kPow_big (b : BitVec 32) (h : 255 ≤ b.toInt) : kPow b = ⊤ := by
  unfold kPow
  have h1 : IntOp.cmpi .sle b 0#32 = 0#1 := by
    rw [sle_zero, decide_eq_false (by omega)]; rfl
  have h2 : IntOp.cmpi .sge b 255#32 = 1#1 := by
    rw [sge_255, decide_eq_true h]; rfl
  simp only [h1, h2, Scalar.select, if_true]
  exact c_top

/-- At a biased exponent between them the kernel makes that power of two. -/
theorem kPow_mid (b : ℕ) (h1 : 1 ≤ b) (h2 : b ≤ 254) : kPow (BitVec.ofNat 32 b) = (((2 : ℝ) ^ ((b : ℤ) - 127) : ℝ) : EReal) := by
  unfold kPow
  have hb : (BitVec.ofNat 32 b).toInt = b := by
    have h : ∀ b : Fin 255, (BitVec.ofNat 32 b.val).toInt = b.val := by decide +kernel
    exact h ⟨b, by omega⟩
  have e1 : IntOp.cmpi .sle (BitVec.ofNat 32 b) 0#32 = 0#1 := by
    rw [sle_zero, hb, decide_eq_false (by omega)]; rfl
  have e2 : IntOp.cmpi .sge (BitVec.ofNat 32 b) 255#32 = 0#1 := by
    rw [sge_255, hb, decide_eq_false (by omega)]; rfl
  simp only [e1, e2, Scalar.select]
  rw [shl]
  exact bits_pow b h1 h2

/-- Below the lowest exponent the reference makes zero. -/
theorem rPow_small (e : EReal) (h : e < ((-126 : ℝ) : EReal)) : rPow e = 0 := by
  unfold rPow; rw [c_lo, if_pos h]

/-- Above the highest exponent the reference makes infinity. -/
theorem rPow_big (e : EReal) (h : ((127 : ℝ) : EReal) < e) : rPow e = ⊤ := by
  unfold rPow
  rw [c_lo, c_hi, c_top, if_neg (not_lt.2 (le_trans (EReal.coe_le_coe_iff.2 (by norm_num)) h.le)), if_pos h]

/-- Between them the reference makes that power of two. -/
theorem rPow_mid (n : ℤ) (h1 : -126 ≤ n) (h2 : n ≤ 127) : rPow (((n : ℝ)) : EReal) = (((2 : ℝ) ^ n : ℝ) : EReal) := by
  have h1' : (-126 : ℝ) ≤ n := by exact_mod_cast h1
  have h2' : (n : ℝ) ≤ 127 := by exact_mod_cast h2
  unfold rPow
  rw [c_lo, c_hi, c_two, if_neg (not_lt.2 (EReal.coe_le_coe_iff.2 h1')), if_neg (not_lt.2 (EReal.coe_le_coe_iff.2 h2'))]
  show ((Real.rpow 2 (n : ℝ) : ℝ) : EReal) = _
  congr 1
  exact Real.rpow_intCast 2 n

/-- At an integer exponent of moderate size the two powers of two are equal. -/
theorem pow_int (n : ℤ) (h1 : -200 ≤ n) (h2 : n ≤ 200) : kPow (BitVec.ofInt 32 (n + 127)) = rPow ((n : ℝ) : EReal) := by
  have hi : (BitVec.ofInt 32 (n + 127)).toInt = n + 127 := by
    rw [BitVec.toInt_ofInt]; simp [Int.bmod]; omega
  by_cases ha : n < -126
  · rw [kPow_nonpos _ (by omega), rPow_small _ (EReal.coe_lt_coe_iff.2 (by exact_mod_cast ha))]
  · by_cases hb : 127 < n
    · rw [kPow_big _ (by omega), rPow_big _ (EReal.coe_lt_coe_iff.2 (by exact_mod_cast hb))]
    · rw [rPow_mid n (by omega) (by omega)]
      obtain ⟨b, hb'⟩ : ∃ b : ℕ, (b : ℤ) = n + 127 := ⟨(n + 127).toNat, by omega⟩
      rw [← hb', BitVec.ofInt_natCast, kPow_mid b (by omega) (by omega)]
      congr 2
      omega

/-! ## The exponents agree -/

/-- The two exponents of a row maximum: the same integer, or the kernel's is 128 and the reference's at least that. -/
theorem exp_cases (a : EReal) (ha : 0 ≤ a) : ∃ n : ℤ, -200 ≤ n ∧ n ≤ 128 ∧ kExp a = BitVec.ofInt 32 n
    ∧ (rExp a = ((n : ℝ) : EReal) ∨ (n = 128 ∧ ∃ N : ℤ, 128 ≤ N ∧ rExp a = ((N : ℝ) : EReal))) := by
  by_cases h0 : a = 0
  · exact ⟨0, by norm_num, by norm_num, by simp [kExp, h0], .inl (by simp [rExp, h0])⟩
  obtain ⟨s, hs, hsc⟩ := c_scale
  unfold kExp rExp
  rw [if_neg h0, if_neg h0, hsc, c_top, c_min, c_two]
  induction a with
  | bot => exact absurd ha (by simp)
  | top =>
    rw [EReal.top_mul_coe_of_pos hs, count_top]
    exact ⟨0, by norm_num, by norm_num, by decide, .inl (by simp [Scalar.select, IntOp.ori])⟩
  | coe a =>
    have ha' : 0 < a := lt_of_le_of_ne (by exact_mod_cast ha) (fun h => h0 (by rw [← h]; rfl))
    rw [← EReal.coe_mul]
    obtain ⟨v, hv⟩ : ∃ v : ℝ, v = a * s := ⟨_, rfl⟩
    have hv0 : 0 < v := by rw [hv]; positivity
    rw [← hv, count_real v hv0]
    have hmin := zpow_le_iff (-126) v hv0
    by_cases hsm : lg v < -126
    · refine ⟨0, by norm_num, by norm_num, ?_, .inl ?_⟩
      · rw [show (min (lg v + 127) 254).toNat = 0 by omega]; decide
      · have : v < 2 ^ (-126 : ℤ) := by
          by_contra hc; have := hmin.1 (not_lt.1 hc); omega
        simp only [EReal.coe_lt_coe_iff, this, decide_true]
        simp [Scalar.select, IntOp.ori]
    · have hnl : ¬ v < 2 ^ (-126 : ℤ) := not_lt.2 (hmin.2 (by omega))
      have hr : Ideal.liftRound Int.floor (Ideal.div (Ideal.log (v : EReal)) (Ideal.log ((2 : ℝ) : EReal))) + 1
          = (((lg v + 1 : ℤ) : ℝ) : EReal) := by
        have l1 : Ideal.log (v : EReal) = ((Real.log v : ℝ) : EReal) := by
          show (if v ≤ 0 then ⊥ else ((Real.log v : ℝ) : EReal)) = _
          rw [if_neg (not_le.2 hv0)]
        have l2 : Ideal.log ((2 : ℝ) : EReal) = ((Real.log 2 : ℝ) : EReal) := by
          show (if (2 : ℝ) ≤ 0 then ⊥ else ((Real.log 2 : ℝ) : EReal)) = _
          rw [if_neg (by norm_num)]
        have l3 : Real.log 2 ≠ 0 := (Real.log_pos (by norm_num)).ne'
        rw [l1, l2]
        unfold Ideal.div
        rw [if_neg (by exact_mod_cast l3), ← EReal.coe_inv, ← EReal.coe_mul, ← div_eq_mul_inv]
        show (((⌊Real.log v / Real.log 2⌋ : ℤ) : ℝ) : EReal) + 1 = _
        unfold lg
        push_cast
        rfl
      have hsel : ∀ x y : EReal, Scalar.select (IntOp.ori (BitVec.ofBool (decide ((v : EReal) < ((2 ^ (-126 : ℤ) : ℝ) : EReal))))
          (BitVec.ofBool (decide ((v : EReal) = ⊤)))) x y = y := by
        intro x y
        simp only [EReal.coe_lt_coe_iff, hnl, EReal.coe_ne_top, decide_false]
        simp [Scalar.select, IntOp.ori]
      rw [hsel, hr]
      obtain ⟨M, hM⟩ : ∃ M : ℕ, M = (min (lg v + 127) 254).toNat := ⟨_, rfl⟩
      rw [← hM]
      have hk : Scalar.select (IntOp.ori (IntOp.cmpi .eq (BitVec.ofNat 32 M) 0#32) (IntOp.cmpi .eq (BitVec.ofNat 32 M) 255#32)) 0#32
          (IntOp.subi (BitVec.ofNat 32 M) 126#32) = BitVec.ofInt 32 ((M : ℤ) - 126) := by
        have hall : ∀ M : Fin 255, 1 ≤ M.val → Scalar.select (IntOp.ori (IntOp.cmpi .eq (BitVec.ofNat 32 M.val) 0#32) (IntOp.cmpi .eq (BitVec.ofNat 32 M.val) 255#32)) 0#32
          (IntOp.subi (BitVec.ofNat 32 M.val) 126#32) = BitVec.ofInt 32 ((M.val : ℤ) - 126) := by decide +kernel
        exact hall ⟨M, by omega⟩ (by show 1 ≤ M; omega)
      refine ⟨(M : ℤ) - 126, by omega, by omega, hk, ?_⟩
      by_cases hl : lg v ≤ 127
      · left; congr 2; omega
      · right; exact ⟨by omega, _, by omega, rfl⟩

/-- Biasing an exponent held in a word. -/
theorem kadd (n : ℤ) : IntOp.addi (BitVec.ofInt 32 n) 127#32 = BitVec.ofInt 32 (n + 127) := by
  rw [BitVec.ofInt_add]; rfl

/-- Negating an exponent held in a word. -/
theorem kneg (n : ℤ) : IntOp.subi 0#32 (BitVec.ofInt 32 n) = BitVec.ofInt 32 (-n) := by
  rw [BitVec.ofInt_neg]; simp [IntOp.subi]

/-- The scale of a row: the kernel's and the reference's are equal. -/
theorem scale_eq (a : EReal) (ha : 0 ≤ a) : kPow (IntOp.addi (kExp a) 127#32) = rPow (rExp a) := by
  obtain ⟨n, h1, h2, hk, hr | ⟨rfl, N, hN, hr⟩⟩ := exp_cases a ha
  · rw [hk, hr, kadd, pow_int n h1 (by omega)]
  · rw [hk, hr, kadd, pow_int 128 (by norm_num) (by norm_num), rPow_big, rPow_big]
    · exact EReal.coe_lt_coe_iff.2 (by exact_mod_cast (by omega : (127 : ℤ) < N))
    · exact EReal.coe_lt_coe_iff.2 (by norm_num)

/-- The reciprocal scale of a row: the kernel's and the reference's are equal. -/
theorem inv_eq (a : EReal) (ha : 0 ≤ a) : kPow (IntOp.addi (IntOp.subi 0#32 (kExp a)) 127#32) = rPow (-rExp a) := by
  obtain ⟨n, h1, h2, hk, hr | ⟨rfl, N, hN, hr⟩⟩ := exp_cases a ha
  · rw [hk, hr, kneg, kadd, pow_int (-n) (by omega) (by omega)]
    push_cast; rfl
  · rw [hk, hr, kneg, kadd, pow_int (-128) (by norm_num) (by norm_num), rPow_small, rPow_small]
    · rw [← EReal.coe_neg]
      exact EReal.coe_lt_coe_iff.2 (by exact_mod_cast (by omega : -N < (-126 : ℤ)))
    · exact EReal.coe_lt_coe_iff.2 (by norm_num)

end Cert.PowTwo
-- ==== Proof.Agree.lean ====
/- The reference's results are the kernel's. -/
module

public import proofs.«01_k».proof.Proof.Gen.ReferenceIdeal.Frame
public import proofs.«01_k».proof.Proof.ROut
public import proofs.«01_k».proof.Proof.PowTwo
public import Idealize.ShloMosaic.Lib.Pipeline.ValueKit
public import Idealize.ShloMosaic.Lib.Claim
public import Idealize.ShloMosaic.Lib.StableHlo.RunRead
public import Idealize.ShloMosaic.Lib.Pointwise

@[expose] public section

set_option maxRecDepth 200000

noncomputable section

namespace Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen (eWord pow2Word rotated amaxTo rowMax grpDot cols scaleV codesV yArr)

/-- An index of a matrix is its pair of coordinates. -/
theorem ix_eta {n p : ℕ} (j : (⟨2, ![n, p]⟩ : Shape).Idx) : j = ValueIdx.ix2 (j 0) (j 1) :=
  funext fun a => match a with | ⟨0, _⟩ => rfl | ⟨1, _⟩ => rfl

/-- Two columns are equal when they are at every row. -/
theorem col_ext {f g : FVec Ideal S128x1 .f32} (h : ∀ r : Fin 128, f (ValueIdx.ix2 r 0) = g (ValueIdx.ix2 r 0)) : f = g :=
  funext fun j => by
    have e : j = ValueIdx.ix2 (j 0) 0 := funext fun a => match a with | ⟨0, _⟩ => rfl | ⟨1, _⟩ => Subsingleton.elim (α := Fin 1) _ _
    rw [e]; exact h (j 0)

/-! ## The rotation -/

/-- The rotation by column groups is the rotation by the reshaped activations. -/
theorem rot_eq (x : FVec Ideal S128x1x8192 .f32) (h : FVec Ideal S128x128 .f32) (hs : S128x1x8192.ShapeCasts S128x8192) :
    rotated (F := Ideal) (shapeCast S128x8192 x hs) h = rXr x h := by
  funext j
  rw [ix_eta j]
  generalize (j 0 : Fin 128) = r, (j 1 : Fin 8192) = z
  pointwise [rotated, grpDot, cols, rXr]
  refine Finset.sum_congr rfl fun k _ => ?_
  refine congrArg₂ (fun a b : EReal => a * b) (congrArg x ?_) rfl
  funext a
  match a with
  | ⟨0, _⟩ => rfl
  | ⟨1, _⟩ => rfl
  | ⟨2, _⟩ =>
    refine Fin.ext ?_
    have hz : z.val < 8192 := z.isLt
    have hk : k.val < 128 := k.isLt
    show (128 * (z.val / 128) + k.val) % 8192 = z.val / 128 * 128 + k.val
    omega

/-! ## The row maximum -/

/-- The absolute value of an extended real. -/
abbrev av (x : EReal) : EReal := max x (-x)

/-- An absolute value is not negative. -/
theorem av_nonneg (x : EReal) : 0 ≤ av x := by
  rcases le_total 0 x with h | h
  · exact le_max_of_le_left h
  · exact le_max_of_le_right (EReal.neg_nonneg.2 h)

/-- The reference's row maximum is at most `y` when every absolute value is. -/
theorem rA_le (A : FVec Ideal S128x8192 .f32) (r : Fin 128) (y : EReal) :
    rA A (ValueIdx.ix2 r 0) ≤ y ↔ ∀ k : Fin 8192, av (A (ValueIdx.ix2 r k)) ≤ y := by
  have e : rA A (ValueIdx.ix2 r 0)
      = Finset.fold max (Ideal.ofBits .f32 0xFF800000#32) (fun k : Fin 8192 => av (A (ValueIdx.ix2 r k))) Finset.univ := by
    pointwise [rA]
    rfl
  rw [e, show Ideal.ofBits .f32 0xFF800000#32 = ⊥ by simp [Ideal.ofBits, Ideal.ieee]]
  rw [Finset.fold_max_le]
  simp

/-- One group's row maximum is at most `y` when every absolute value in the group is. -/
theorem rowMax_le (x0 : FVec Ideal S128x8192 .f32) (x1 : FVec Ideal S128x128 .f32) (n : ℕ) (r : Fin 128) (y : EReal) :
    (rowMax (F := Ideal) x1 (cols (F := Ideal) x0 (128 * n)) (ValueIdx.ix2 r 0) : EReal) ≤ y
      ↔ ∀ k : Fin 128, av (grpDot (F := Ideal) x1 (cols (F := Ideal) x0 (128 * n)) (ValueIdx.ix2 r k)) ≤ y := by
  have e : (rowMax (F := Ideal) x1 (cols (F := Ideal) x0 (128 * n)) (ValueIdx.ix2 r 0) : EReal)
      = Finset.fold max (Ideal.ofBits .f32 0xFF800000#32)
          (fun k : Fin 128 => av (grpDot (F := Ideal) x1 (cols (F := Ideal) x0 (128 * n)) (ValueIdx.ix2 r k))) Finset.univ := by
    pointwise [rowMax]
    rfl
  rw [e, show Ideal.ofBits .f32 0xFF800000#32 = ⊥ by simp [Ideal.ofBits, Ideal.ieee]]
  rw [Finset.fold_max_le]
  simp

/-- The running maximum after `n` groups is at most `y` when `y` is not negative and every absolute value in the groups is at most `y`. -/
theorem amaxTo_le (x0 : FVec Ideal S128x8192 .f32) (x1 : FVec Ideal S128x128 .f32) (r : Fin 128) (y : EReal) (n : ℕ) (hn : n ≤ 64) :
    (amaxTo (F := Ideal) x0 x1 n (ValueIdx.ix2 r 0) : EReal) ≤ y
      ↔ 0 ≤ y ∧ ∀ k : Fin 8192, k.val < 128 * n → av (rotated (F := Ideal) x0 x1 (ValueIdx.ix2 r k)) ≤ y := by
  induction n with
  | zero =>
    have e : (amaxTo (F := Ideal) x0 x1 0 (ValueIdx.ix2 r 0) : EReal) = 0 := Cert.PowTwo.c_zero
    rw [e]; simp
  | succ n ih =>
    have e : (amaxTo (F := Ideal) x0 x1 (n + 1) (ValueIdx.ix2 r 0) : EReal)
        = max (amaxTo (F := Ideal) x0 x1 n (ValueIdx.ix2 r 0) : EReal) (rowMax (F := Ideal) x1 (cols (F := Ideal) x0 (128 * n)) (ValueIdx.ix2 r 0) : EReal) := rfl
    rw [e, max_le_iff, ih (by omega), rowMax_le]
    have rot : ∀ (k : Fin 128) (z : Fin 8192), z.val = 128 * n + k.val →
        rotated (F := Ideal) x0 x1 (ValueIdx.ix2 r z) = grpDot (F := Ideal) x1 (cols (F := Ideal) x0 (128 * n)) (ValueIdx.ix2 r k) := by
      intro k z hz
      have hk := k.isLt
      have q : z.val / 128 = n := by omega
      have p : z.val % 128 = k.val := by omega
      show grpDot (F := Ideal) x1 (cols (F := Ideal) x0 (128 * (z.val / 128))) (ValueIdx.ix2 r ⟨z.val % 128, _⟩) = _
      rw [q]
      exact congrArg (fun w => grpDot (F := Ideal) x1 (cols (F := Ideal) x0 (128 * n)) (ValueIdx.ix2 r w)) (Fin.ext p)
    constructor
    · rintro ⟨⟨h0, h1⟩, h2⟩
      refine ⟨h0, fun z hz => ?_⟩
      by_cases hl : z.val < 128 * n
      · exact h1 z hl
      · have := h2 ⟨z.val - 128 * n, by omega⟩
        rw [← rot _ z (by show z.val = 128 * n + (z.val - 128 * n); omega)] at this
        exact this
    · rintro ⟨h0, h1⟩
      refine ⟨⟨h0, fun z hz => h1 z (by omega)⟩, fun k => ?_⟩
      have hk := k.isLt
      rw [← rot k ⟨128 * n + k.val, by omega⟩ rfl]
      exact h1 _ (by show 128 * n + k.val < 128 * (n + 1); omega)

/-- The kernel's row maximum is the reference's. -/
theorem amax_eq (x0 : FVec Ideal S128x8192 .f32) (x1 : FVec Ideal S128x128 .f32) (r : Fin 128) :
    (amaxTo (F := Ideal) x0 x1 64 (ValueIdx.ix2 r 0) : EReal) = rA (rotated (F := Ideal) x0 x1) (ValueIdx.ix2 r 0) := by
  refine eq_of_forall_ge_iff fun y => ?_
  rw [amaxTo_le x0 x1 r y 64 le_rfl, rA_le]
  constructor
  · rintro ⟨_, h⟩ k
    exact h k (by have := k.isLt; omega)
  · intro h
    exact ⟨le_trans (av_nonneg _) (h 0), fun k _ => h k⟩

/-- The row maximum is not negative. -/
theorem rA_nonneg (A : FVec Ideal S128x8192 .f32) (r : Fin 128) : (0 : EReal) ≤ rA A (ValueIdx.ix2 r 0) :=
  le_trans (av_nonneg _) ((rA_le A r _).1 le_rfl 0)

/-! ## The scale, its reciprocal, the codes -/

/-- The kernel's exponent at one row. -/
theorem eWord_at (A : FVec Ideal S128x1 .f32) (r : Fin 128) :
    eWord (F := Ideal) A (ValueIdx.ix2 r 0) = Cert.PowTwo.kExp (A (ValueIdx.ix2 r 0)) := by
  pointwise [eWord]
  rfl

/-- The reference's exponent at one row. -/
theorem rE_at (A : FVec Ideal S128x1 .f32) (r : Fin 128) : rE A (ValueIdx.ix2 r 0) = Cert.PowTwo.rExp (A (ValueIdx.ix2 r 0)) := by
  pointwise [rE, cst1]
  rfl

/-- The reference's power of two at one row. -/
theorem rP_at (A : FVec Ideal S128x1 .f32) (r : Fin 128) : rP A (ValueIdx.ix2 r 0) = Cert.PowTwo.rPow (A (ValueIdx.ix2 r 0)) := by
  pointwise [rP, cst1]
  rfl

/-- The kernel's scales are the reference's. -/
theorem scale_eq (x0 : FVec Ideal S128x8192 .f32) (x1 : FVec Ideal S128x128 .f32) :
    scaleV (F := Ideal) x0 x1 = rP (rE (rA (rotated (F := Ideal) x0 x1))) := by
  refine col_ext fun r => ?_
  rw [rP_at, rE_at, ← amax_eq x0 x1 r, ← Cert.PowTwo.scale_eq _ (by rw [amax_eq]; exact rA_nonneg _ r), ← eWord_at]
  rfl

/-- The kernel's reciprocal scales are the reference's. -/
theorem inv_eq (x0 : FVec Ideal S128x8192 .f32) (x1 : FVec Ideal S128x128 .f32) :
    pow2Word (F := Ideal) (addi (subi (broadcast S128x1 0#32) (eWord (F := Ideal) (amaxTo (F := Ideal) x0 x1 64))) (broadcast S128x1 127#32))
      = rP (Host.negf (F := Ideal) (rE (rA (rotated (F := Ideal) x0 x1)))) := by
  refine col_ext fun r => ?_
  rw [rP_at, show Host.negf (F := Ideal) (rE (rA (rotated (F := Ideal) x0 x1))) (ValueIdx.ix2 r 0)
    = -(rE (rA (rotated (F := Ideal) x0 x1)) (ValueIdx.ix2 r 0) : EReal) from rfl,
    rE_at, ← amax_eq x0 x1 r, ← Cert.PowTwo.inv_eq _ (by rw [amax_eq]; exact rA_nonneg _ r), ← eWord_at]
  rfl

/-- The kernel's codes are the reference's clipped activations. -/
theorem codes_eq (x0 : FVec Ideal S128x8192 .f32) (x1 : FVec Ideal S128x128 .f32) :
    codesV (F := Ideal) x0 x1
      = k0_pay1 (F := Ideal) (rC (rotated (F := Ideal) x0 x1) (rP (Host.negf (F := Ideal) (rE (rA (rotated (F := Ideal) x0 x1)))))) := by
  unfold codesV
  rw [inv_eq]
  generalize rotated (F := Ideal) x0 x1 = X
  generalize rP (Host.negf (F := Ideal) (rE (rA X))) = P
  funext j
  rw [ix_eta j]
  generalize (j 0 : Fin 128) = r, (j 1 : Fin 8192) = z
  pointwise [Cert.KernelIdeal.Gen.k0_pay1, k0_pay1, rC]

/-- The reference's `y`, entry by entry. -/
theorem y_eq (C : FVec Ideal S128x8192 .fp8e4m3) (S : FVec Ideal S128x1 .f32) (W : FVec Ideal S8192x32768 .fp8e4m3)
    (ws b : FVec Ideal S32768 .f32) :
    k0_pay2 (F := Ideal) C W S (shapeCast S1x32768 ws shapeCasts_S32768_S1x32768) (shapeCast S1x32768 b shapeCasts_S32768_S1x32768)
      = yArr C S W ws b := by
  funext j
  rw [ix_eta j]
  generalize (j 0 : Fin 128) = r, (j 1 : Fin 32768) = z
  pointwise [k0_pay2, yArr]

end Cert.ReferenceIdeal.Gen
-- ==== Proof.Value.lean ====
/- The kernel's three results are the reference's. -/
module

public import proofs.«01_k».proof.Defs
public import proofs.«01_k».proof.Proof.Agree

@[expose] public section

set_option maxRecDepth 16384

noncomputable section

namespace Cert.Value

open Idealize.ShloMosaic Idealize.ShloMosaic.TcCoe Idealize.SL.Sem

/-! ## The kernel's run -/

section Kernel

open Cert.KernelIdeal Cert.KernelIdeal.Gen

/-- The results of the kernel on core `c`, and its arguments unchanged. -/
theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v3_0) = yArr (codesV (xArr m c) (m ((c : Thread nD τ).loc main_arg1))) (scaleV (xArr m c) (m ((c : Thread nD τ).loc main_arg1)))
        (m ((c : Thread nD τ).loc main_arg2)) (m ((c : Thread nD τ).loc main_arg3)) (m ((c : Thread nD τ).loc main_arg4))
      ∧ r.2.mem ((c.tc : Thread nD τ).loc main_v3_1) = codesV (xArr m c) (m ((c : Thread nD τ).loc main_arg1))
      ∧ r.2.mem ((c.tc : Thread nD τ).loc main_v3_2) = scaleV (xArr m c) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 5).trans (final5 m c), ((h.1 c).1 6).trans (final6 m c), ((h.1 c).1 7).trans (final7 m c), h.2 c⟩)
    (θ_run_and (run_main m g) (unchanged m g))

end Kernel

/-! ## The reference's run -/

section Reference

open Cert.ReferenceIdeal Cert.ReferenceIdeal.Gen

/-- The results of the reference on core `c`, and its arguments unchanged. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v46_0) = k0_pay2 (F := Ideal) (k0_pay1 (F := Ideal) (V m c main_v43)) (m ((c : Thread nD τ).loc main_arg2)) (V m c main_v31) (V m c main_v44) (V m c main_v45)
      ∧ r.2.mem ((c.tc : Thread nD τ).loc main_v46_1) = k0_pay1 (F := Ideal) (V m c main_v43)
      ∧ r.2.mem ((c.tc : Thread nD τ).loc main_v31) = V m c main_v31
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 5).trans (final5 m c), ((h.1 c).1 6).trans (final6 m c),
      ((h.1 c).1 2).trans (((dats m 0 c).arrAt_in 2 rfl _).trans (A_eq m c 2)), h.2 c⟩)
    (θ_run_and (run_main m g) (frame_of m g (dats m) (A_eq m) (run_main m g)))

end Reference

/-! ## The claim -/

open Cert.KernelIdeal.Gen (yArr codesV scaleV xArr)

/-- From equal arguments the kernel's three results are the reference's: the codes, the scales, the product. -/
theorem algebraic : Cert.algebraic_KernelIdeal_ReferenceIdeal (hKernelIdeal := Cert.KernelIdeal.Gen.facts) (hReferenceIdeal := Cert.ReferenceIdeal.Gen.facts) := by
  intro m g m' g' _ hargs
  refine ⟨_, _, _, kernel_run m g, (θ_run _ _ _).mono (fun r h c => ?_) (reference_run m' g')⟩
  obtain ⟨h0, h1, h2, h3, h4⟩ := hargs c
  obtain ⟨ry, rc, rs, hr⟩ := h c
  have hrot := Cert.ReferenceIdeal.Gen.rot_eq (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) Cert.KernelIdeal.Gen.shapeCasts_S128x1x8192_S128x8192
  have hs := Cert.ReferenceIdeal.Gen.scale_eq (xArr m c) (m ((c.tc : Thread Cert.KernelIdeal.nD Cert.KernelIdeal.τ).loc Cert.KernelIdeal.main_arg1))
  have hc := Cert.ReferenceIdeal.Gen.codes_eq (xArr m c) (m ((c.tc : Thread Cert.KernelIdeal.nD Cert.KernelIdeal.τ).loc Cert.KernelIdeal.main_arg1))
  rw [hrot] at hs hc
  have e31 := Cert.ReferenceIdeal.Gen.V_v31 m' c
  have e43 := Cert.ReferenceIdeal.Gen.V_v43 m' c
  have e44 := Cert.ReferenceIdeal.Gen.V_v44 m' c
  have e45 := Cert.ReferenceIdeal.Gen.V_v45 m' c
  rw [e43, e31, e44, e45, Cert.ReferenceIdeal.Gen.y_eq] at ry
  rw [e43] at rc
  rw [e31] at rs
  unfold Cert.ReferenceIdeal.Gen.rExp at ry rc rs
  rw [h0, h1, h2, h3, h4] at ry
  rw [h0, h1] at rc rs
  refine ⟨?_, ?_, ?_, hr⟩
  · rw [hc, hs]; exact ry
  · rw [hc]; exact rc
  · rw [hs]; exact rs

end Cert.Value
-- ==== Proof.lean ====
/- The proof of every claim of this kernel, assembled from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.PFrame
public import proofs.«01_k».proof.Proof.KFrame
public import proofs.«01_k».proof.Proof.Value
public import Idealize.ShloMosaic.Adequacy
public import Idealize.ShloMosaic.Init

@[expose] public section

noncomputable section

namespace Cert.Proof

open Idealize.ShloMosaic Idealize.SL.Sem

/-- The five claims: the three frames, the preservation, and the equality of the results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, Cert.Value.algebraic⟩

end Cert.Proof

end
